-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_meaningful [hPre_meaningful : Cert.Pre_meaningful.Facts] (m : (ℓ : Loc Cert.KernelIdeal.nD Cert.KernelIdeal.τ Cert.KernelIdeal.sig) → Buf (Elt Ideal) ℓ) : Prop :=
  ∀ c : Dev Cert.KernelIdeal.nD,
    (Cert.Pre_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_meaningful [hPre_meaningful : Cert.Pre_meaningful.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_meaningful.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_meaningful [hKernelIdeal : Cert.KernelIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_meaningful m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_meaningful [hReferenceIdeal : Cert.ReferenceIdeal.Facts] [hPre_meaningful : Cert.Pre_meaningful.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_meaningful m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_softcap" .f32 0x3D088889#32 ((1 / 30 : ℝ) : EReal)
  ∧ IdealRules.named_const.Statement Cert.KernelIdeal.κ "softcap_over_ln2" .f32 0x422D1F97#32 ((30 * (Real.log 2)⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_squared" .f32 0x3EF5FDF0#32 (((Real.log 2) * (Real.log 2) : ℝ) : EReal)

def algebraic_KernelIdeal_ReferenceIdeal_pre_meaningful [hKernelIdeal : Cert.KernelIdeal.Facts] [hReferenceIdeal : Cert.ReferenceIdeal.Facts] [hPre_meaningful : Cert.Pre_meaningful.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_meaningful m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_meaningful : Cert.Pre_meaningful.Facts),
    quiescent_Kernel (hKernel := hKernel)
    ∧ quiescent_KernelIdeal (hKernelIdeal := hKernelIdeal)
    ∧ quiescent_KernelIdeal_pre_meaningful (hKernelIdeal := hKernelIdeal) (hPre_meaningful := hPre_meaningful)
    ∧ quiescent_ReferenceIdeal (hReferenceIdeal := hReferenceIdeal)
    ∧ quiescent_ReferenceIdeal_pre_meaningful (hReferenceIdeal := hReferenceIdeal) (hPre_meaningful := hPre_meaningful)
    ∧ preserves_Kernel_KernelIdeal
    ∧ algebraic_KernelIdeal_ReferenceIdeal_pre_meaningful (hKernelIdeal := hKernelIdeal) (hReferenceIdeal := hReferenceIdeal) (hPre_meaningful := hPre_meaningful)
-- ==== Pre_meaningful.lean ====
abbrev S3x128x7168 : Shape := ⟨3, ![3, 128, 7168]⟩
abbrev S3x128 : Shape := ⟨2, ![3, 128]⟩
abbrev S49152x7168 : Shape := ⟨2, ![49152, 7168]⟩
abbrev S49152 : Shape := ⟨1, ![49152]⟩
abbrev S3x128x7 : Shape := ⟨3, ![3, 128, 7]⟩
abbrev S_ : Shape := ⟨0, ![]⟩
abbrev S3x128x1 : Shape := ⟨3, ![3, 128, 1]⟩

class Facts : Prop where
  bcast_S_S3x128x7 : S_.BroadcastsInDim S3x128x7 (![] : Fin 0 → Fin S3x128x7.rank)
  bcast_S_S3x128 : S_.BroadcastsInDim S3x128 (![] : Fin 0 → Fin S3x128.rank)
  bcast_S3x128_S3x128x1_0_1 : S3x128.BroadcastsInDim S3x128x1 (![0, 1] : Fin 2 → Fin S3x128x1.rank)
  bcast_S3x128x1_S3x128x7_0_1_2 : S3x128x1.BroadcastsInDim S3x128x7 (![0, 1, 2] : Fin 3 → Fin S3x128x7.rank)

variable [Facts]

def fn {F : FTy → Type} [FloatOps F] (main_arg0 : FVec F S3x128x7168 .fp8e4m3) (main_arg1 : FVec F S3x128 .f32) (main_arg2 : FVec F S49152x7168 .fp8e4m3) (main_arg3 : FVec F S49152 .f32) (main_arg4 : IVec S3x128x7 32) (main_arg5 : FVec F S3x128 .f32) : IVec S3x128x7 1 :=
  let main_c : IVec S_ 32 := constantI S_ 32 0#32
  let main_v0 : IVec S3x128x7 32 := broadcastInDim S3x128x7 ![] bcast_S_S3x128x7 main_c
  let main_v1 : IVec S3x128x7 1 := cmpi .sge main_arg4 main_v0
  let main_c_0 : IVec S_ 32 := constantI S_ 32 49152#32
  let main_v2 : IVec S3x128x7 32 := broadcastInDim S3x128x7 ![] bcast_S_S3x128x7 main_c_0
  let main_v3 : IVec S3x128x7 1 := cmpi .slt main_arg4 main_v2
  let main_v4 : IVec S3x128x7 1 := andi main_v1 main_v3
  let main_cst : FVec F S_ .f32 := constant S_ .f32 0x00000000#32
  let main_v5 : FVec F S3x128 .f32 := broadcastInDim S3x128 ![] bcast_S_S3x128 main_cst
  let main_v6 : IVec S3x128 1 := cmpf .une main_arg5 main_v5
  let main_v7 : IVec S3x128x1 1 := broadcastInDim S3x128x1 ![0, 1] bcast_S3x128_S3x128x1_0_1 main_v6
  let main_v8 : IVec S3x128x7 1 := broadcastInDim S3x128x7 ![0, 1, 2] bcast_S3x128x1_S3x128x7_0_1_2 main_v7
  let main_v9 : IVec S3x128x7 1 := andi main_v4 main_v8
  main_v9
-- ==== Kernel.lean ====
abbrev S3x128x7168 : Shape := ⟨3, ![3, 128, 7168]⟩
abbrev S3x128 : Shape := ⟨2, ![3, 128]⟩
abbrev S49152x7168 : Shape := ⟨2, ![49152, 7168]⟩
abbrev S49152 : Shape := ⟨1, ![49152]⟩
abbrev S3x128x7 : Shape := ⟨3, ![3, 128, 7]⟩
abbrev S384x7 : Shape := ⟨2, ![384, 7]⟩
abbrev S384x7168 : Shape := ⟨2, ![384, 7168]⟩
abbrev S1x49152 : Shape := ⟨2, ![1, 49152]⟩
abbrev S1x512 : Shape := ⟨2, ![1, 512]⟩
abbrev S512x7168 : Shape := ⟨2, ![512, 7168]⟩
abbrev S384x512 : Shape := ⟨2, ![384, 512]⟩
abbrev S384x128 : Shape := ⟨2, ![384, 128]⟩
abbrev S1x128 : Shape := ⟨2, ![1, 128]⟩
abbrev S128x128 : Shape := ⟨2, ![128, 128]⟩
abbrev S32x128 : Shape := ⟨2, ![32, 128]⟩
abbrev S32x128x1 : Shape := ⟨3, ![32, 128, 1]⟩
abbrev S128 : Shape := ⟨1, ![128]⟩
abbrev S128x7 : Shape := ⟨2, ![128, 7]⟩

abbrev nBuf : Space → Nat
  | .hbm => 12
  | .vmem => 21
  | .smem => 0
  | _ => 0

abbrev bufTy : (tb : Table) → Fin (tcTables nBuf tb) → BufTy
  | .hbm, ⟨0, _⟩ => ⟨S3x128x7168, .fp8e4m3⟩
  | .hbm, ⟨1, _⟩ => ⟨S3x128, .f32⟩
  | .hbm, ⟨2, _⟩ => ⟨S49152x7168, .fp8e4m3⟩
  | .hbm, ⟨3, _⟩ => ⟨S49152, .f32⟩
  | .hbm, ⟨4, _⟩ => ⟨S3x128x7, .i32⟩
  | .hbm, ⟨5, _⟩ => ⟨S3x128, .f32⟩
  | .hbm, ⟨6, _⟩ => ⟨S384x7, .i32⟩
  | .hbm, ⟨7, _⟩ => ⟨S384x7168, .fp8e4m3⟩
  | .hbm, ⟨8, _⟩ => ⟨S1x49152, .f32⟩
  | .hbm, ⟨9, _⟩ => ⟨S3x128, .f32⟩
  | .hbm, ⟨10, _⟩ => ⟨S3x128, .f32⟩
  | .hbm, ⟨11, _⟩ => ⟨S384x7, .f32⟩
  | .local _ .vmem, ⟨0, _⟩ => ⟨S3x128, .f32⟩
  | .local _ .vmem, ⟨1, _⟩ => ⟨S3x128, .f32⟩
  | .local _ .vmem, ⟨2, _⟩ => ⟨S384x7, .i32⟩
  | .local _ .vmem, ⟨3, _⟩ => ⟨S384x7168, .fp8e4m3⟩
  | .local _ .vmem, ⟨4, _⟩ => ⟨S1x512, .f32⟩
  | .local _ .vmem, ⟨5, _⟩ => ⟨S1x512, .f32⟩
  | .local _ .vmem, ⟨6, _⟩ => ⟨S512x7168, .fp8e4m3⟩
  | .local _ .vmem, ⟨7, _⟩ => ⟨S512x7168, .fp8e4m3⟩
  | .local _ .vmem, ⟨8, _⟩ => ⟨S3x128, .f32⟩
  | .local _ .vmem, ⟨9, _⟩ => ⟨S3x128, .f32⟩
  | .local _ .vmem, ⟨10, _⟩ => ⟨S384x7, .f32⟩
  | .local _ .vmem, ⟨11, _⟩ => ⟨S384x512, .f32⟩
  | .local _ .vmem, ⟨12, _⟩ => ⟨S384x128, .f32⟩
  | .local _ .vmem, ⟨13, _⟩ => ⟨S384x128, .f32⟩
  | .local _ .vmem, ⟨14, _⟩ => ⟨S384x128, .i32⟩
  | .local _ .vmem, ⟨15, _⟩ => ⟨S384x128, .i32⟩
  | .local _ .vmem, ⟨16, _⟩ => ⟨S384x128, .f32⟩
  | .local _ .vmem, ⟨17, _⟩ => ⟨S384x128, .f32⟩
  | .local _ .vmem, ⟨18, _⟩ => ⟨S384x128, .f32⟩
  | .local _ .vmem, ⟨19, _⟩ => ⟨S384x128, .f32⟩
  | .local _ .vmem, ⟨20, _⟩ => ⟨S384x128, .f32⟩
  | _, _ => ⟨S3x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![96], ![false]⟩

def k0_cond2 (i : grid0.Coords) : BitVec 1 :=
  let arg0 : BitVec 32 := BitVec.ofNat 32 (i 0).val
  let c95_i32 : BitVec 32 := 95#32
  let v1774 : BitVec 1 := Scalar.cmpi .eq arg0 c95_i32
  let v1775 : BitVec 32 := Scalar.extui v1774
  let c0_i32_673 : BitVec 32 := 0#32
  let v1776 : BitVec 1 := Scalar.cmpi .ne v1775 c0_i32_673
  v1776

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_ln2" => some (((Real.log 2)⁻¹ : ℝ) : EReal)
  | "inv_softcap" => some ((1 / 30 : ℝ) : EReal)
  | "ln2" => some ((Real.log 2 : ℝ) : EReal)
  | "ln2_squared" => some (((Real.log 2) * (Real.log 2) : ℝ) : EReal)
  | "softcap_over_ln2" => some ((30 * (Real.log 2)⁻¹ : ℝ) : EReal)
  | _ => none
-- ==== ReferenceIdeal.lean ====
abbrev S3x128x7168 : Shape := ⟨3, ![3, 128, 7168]⟩
abbrev S3x128 : Shape := ⟨2, ![3, 128]⟩
abbrev S49152x7168 : Shape := ⟨2, ![49152, 7168]⟩
abbrev S49152 : Shape := ⟨1, ![49152]⟩
abbrev S3x128x7 : Shape := ⟨3, ![3, 128, 7]⟩
abbrev S384x7168 : Shape := ⟨2, ![384, 7168]⟩
abbrev S384x49152 : Shape := ⟨2, ![384, 49152]⟩
abbrev S3x128x49152 : Shape := ⟨3, ![3, 128, 49152]⟩
abbrev S3x128x1 : Shape := ⟨3, ![3, 128, 1]⟩
abbrev S1x1x49152 : Shape := ⟨3, ![1, 1, 49152]⟩
abbrev S_ : Shape := ⟨0, ![]⟩
abbrev S3x128x7x1 : Shape := ⟨4, ![3, 128, 7, 1]⟩
abbrev S1 : Shape := ⟨1, ![1]⟩
abbrev S1x1x1x1 : Shape := ⟨4, ![1, 1, 1, 1]⟩
abbrev S384x7 : Shape := ⟨2, ![384, 7]⟩

abbrev nBuf : Space → Nat
  | .hbm => 75
  | .vmem => 3
  | .smem => 0
  | _ => 0

abbrev bufTy : (tb : Table) → Fin (tcTables nBuf tb) → BufTy
  | .hbm, ⟨0, _⟩ => ⟨S3x128x7168, .fp8e4m3⟩
  | .hbm, ⟨1, _⟩ => ⟨S3x128, .f32⟩
  | .hbm, ⟨2, _⟩ => ⟨S49152x7168, .fp8e4m3⟩
  | .hbm, ⟨3, _⟩ => ⟨S49152, .f32⟩
  | .hbm, ⟨4, _⟩ => ⟨S3x128x7, .i32⟩
  | .hbm, ⟨5, _⟩ => ⟨S3x128, .f32⟩
  | .hbm, ⟨6, _⟩ => ⟨S384x7168, .fp8e4m3⟩
  | .hbm, ⟨7, _⟩ => ⟨S384x49152, .f32⟩
  | .hbm, ⟨8, _⟩ => ⟨S3x128x49152, .f32⟩
  | .hbm, ⟨9, _⟩ => ⟨S3x128x1, .f32⟩
  | .hbm, ⟨10, _⟩ => ⟨S3x128x49152, .f32⟩
  | .hbm, ⟨11, _⟩ => ⟨S3x128x49152, .f32⟩
  | .hbm, ⟨12, _⟩ => ⟨S1x1x49152, .f32⟩
  | .hbm, ⟨13, _⟩ => ⟨S3x128x49152, .f32⟩
  | .hbm, ⟨14, _⟩ => ⟨S3x128x49152, .f32⟩
  | .hbm, ⟨15, _⟩ => ⟨S_, .f32⟩
  | .hbm, ⟨16, _⟩ => ⟨S3x128x49152, .f32⟩
  | .hbm, ⟨17, _⟩ => ⟨S3x128x49152, .f32⟩
  | .hbm, ⟨18, _⟩ => ⟨S3x128x49152, .f32⟩
  | .hbm, ⟨19, _⟩ => ⟨S_, .f32⟩
  | .hbm, ⟨20, _⟩ => ⟨S3x128x49152, .f32⟩
  | .hbm, ⟨21, _⟩ => ⟨S3x128x49152, .f32⟩
  | .hbm, ⟨22, _⟩ => ⟨S3x128x1, .f32⟩
  | .hbm, ⟨23, _⟩ => ⟨S3x128x49152, .f32⟩
  | .hbm, ⟨24, _⟩ => ⟨S3x128x49152, .f32⟩
  | .hbm, ⟨25, _⟩ => ⟨S_, .f32⟩
  | .hbm, ⟨26, _⟩ => ⟨S3x128, .f32⟩
  | .hbm, ⟨27, _⟩ => ⟨S_, .f32⟩
  | .hbm, ⟨28, _⟩ => ⟨S3x128, .f32⟩
  | .hbm, ⟨29, _⟩ => ⟨S3x128, .f32⟩
  | .hbm, ⟨30, _⟩ => ⟨S3x128x1, .f32⟩
  | .hbm, ⟨31, _⟩ => ⟨S3x128x49152, .f32⟩
  | .hbm, ⟨32, _⟩ => ⟨S3x128x49152, .f32⟩
  | .hbm, ⟨33, _⟩ => ⟨S3x128x49152, .f32⟩
  | .hbm, ⟨34, _⟩ => ⟨S_, .f32⟩
  | .hbm, ⟨35, _⟩ => ⟨S3x128, .f32⟩
  | .hbm, ⟨36, _⟩ => ⟨S3x128x1, .f32⟩
  | .hbm, ⟨37, _⟩ => ⟨S3x128x1, .f32⟩
  | .hbm, ⟨38, _⟩ => ⟨S3x128x49152, .f32⟩
  | .hbm, ⟨39, _⟩ => ⟨S3x128x49152, .f32⟩
  | .hbm, ⟨40, _⟩ => ⟨S3x128x49152, .f32⟩
  | .hbm, ⟨41, _⟩ => ⟨S3x128x49152, .f32⟩
  | .hbm, ⟨42, _⟩ => ⟨S_, .f32⟩
  | .hbm, ⟨43, _⟩ => ⟨S3x128, .f32⟩
  | .hbm, ⟨44, _⟩ => ⟨S3x128, .f32⟩
  | .hbm, ⟨45, _⟩ => ⟨S3x128x1, .f32⟩
  | .hbm, ⟨46, _⟩ => ⟨S3x128x49152, .f32⟩
  | .hbm, ⟨47, _⟩ => ⟨S3x128x49152, .f32⟩
  | .hbm, ⟨48, _⟩ => ⟨S3x128x49152, .f32⟩
  | .hbm, ⟨49, _⟩ => ⟨S3x128x49152, .f32⟩
  | .hbm, ⟨50, _⟩ => ⟨S_, .f32⟩
  | .hbm, ⟨51, _⟩ => ⟨S3x128, .f32⟩
  | .hbm, ⟨52, _⟩ => ⟨S_, .i32⟩
  | .hbm, ⟨53, _⟩ => ⟨S3x128x7, .i32⟩
  | .hbm, ⟨54, _⟩ => ⟨S3x128x7, .i1⟩
  | .hbm, ⟨55, _⟩ => ⟨S_, .i32⟩
  | .hbm, ⟨56, _⟩ => ⟨S3x128x7, .i32⟩
  | .hbm, ⟨57, _⟩ => ⟨S3x128x7, .i32⟩
  | .hbm, ⟨58, _⟩ => ⟨S3x128x7, .i32⟩
  | .hbm, ⟨59, _⟩ => ⟨S3x128x7x1, .i32⟩
  | .hbm, ⟨60, _⟩ => ⟨S1, .i32⟩
  | .hbm, ⟨61, _⟩ => ⟨S_, .i32⟩
  | .hbm, ⟨62, _⟩ => ⟨S3x128x7x1, .i32⟩
  | .hbm, ⟨63, _⟩ => ⟨S3x128x7x1, .i1⟩
  | .hbm, ⟨64, _⟩ => ⟨S1x1x1x1, .i32⟩
  | .hbm, ⟨65, _⟩ => ⟨S3x128x7x1, .i32⟩
  | .hbm, ⟨66, _⟩ => ⟨S3x128x7x1, .i1⟩
  | .hbm, ⟨67, _⟩ => ⟨S3x128x7x1, .i1⟩
  | .hbm, ⟨68, _⟩ => ⟨S_, .i1⟩
  | .hbm, ⟨69, _⟩ => ⟨S3x128x7, .i1⟩
  | .hbm, ⟨70, _⟩ => ⟨S3x128x7, .f32⟩
  | .hbm, ⟨71, _⟩ => ⟨S_, .f32⟩
  | .hbm, ⟨72, _⟩ => ⟨S3x128x7, .f32⟩
  | .hbm, ⟨73, _⟩ => ⟨S3x128x7, .f32⟩
  | .hbm, ⟨74, _⟩ => ⟨S384x7, .f32⟩
  | .local _ .vmem, ⟨0, _⟩ => ⟨S384x7168, .fp8e4m3⟩
  | .local _ .vmem, ⟨1, _⟩ => ⟨S49152x7168, .fp8e4m3⟩
  | .local _ .vmem, ⟨2, _⟩ => ⟨S384x49152, .f32⟩
  | _, _ => ⟨S3x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v28 : Ref sig .tc := ⟨.hbm, 73, rfl⟩
abbrev main_v29 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S384x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x49152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Preserves.lean ====
module

public import proofs.«01_k».proof.Defs

@[expose] public section

noncomputable section

/-! # The named constants -/

namespace Cert.KernelClaims

open Idealize.ShloMosaic

/-- Each constant the kernel spells as a rounded number is the number its name stands for, rounded. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

end Cert.KernelClaims

end
-- ==== Proof.Math.lean ====
/- The real mathematics of the certificate: the three running moments of an online softmax in base two, how a step and
   the final merge of the lanes move their reference point, and the entropy, the varentropy and the log-probability of
   a softmax in terms of the moments. No program appears here. -/
module

public import Mathlib.Analysis.SpecialFunctions.Pow.Real
public import Mathlib.Analysis.SpecialFunctions.Log.Basic
public import Mathlib.Data.EReal.Inv

@[expose] public section

noncomputable section

namespace Cert.SoftmaxMath

open Finset

/-- The `k`-th moment about `c`, over the members of `s`, of the base-two weights of `u`. -/
def moment {ι : Type*} (s : Finset ι) (u : ι → ℝ) (c : ℝ) (k : ℕ) : ℝ :=
  ∑ v ∈ s, (2 : ℝ) ^ (u v - c) * (u v - c) ^ k

section
variable {ι : Type*} (s : Finset ι) (u : ι → ℝ) (c c' : ℝ)

theorem pow_shift (x : ℝ) : (2 : ℝ) ^ (x - c') = (2 : ℝ) ^ (c - c') * (2 : ℝ) ^ (x - c) := by
  rw [← Real.rpow_add (by norm_num)]; congr 1; ring

/-- Moving the reference point: the weight. -/
theorem moment_shift0 : moment s u c' 0 = (2 : ℝ) ^ (c - c') * moment s u c 0 := by
  simp only [moment, pow_zero, mul_one, mul_sum]
  exact sum_congr rfl fun v _ => pow_shift c c' (u v)

/-- Moving the reference point: the first moment. -/
theorem moment_shift1 :
    moment s u c' 1 = (2 : ℝ) ^ (c - c') * (moment s u c 1 + (c - c') * moment s u c 0) := by
  simp only [moment, pow_zero, mul_one, mul_sum, ← sum_add_distrib, pow_one]
  refine sum_congr rfl fun v _ => ?_
  rw [pow_shift c c' (u v)]; ring

/-- Moving the reference point: the second moment, in the factored form of one fused update. -/
theorem moment_shift2 :
    moment s u c' 2 = (2 : ℝ) ^ (c - c') * (moment s u c 2
      + (c - c') * (moment s u c 1 + (moment s u c 1 + (c - c') * moment s u c 0))) := by
  simp only [moment, pow_zero, mul_one, mul_sum, ← sum_add_distrib, pow_one]
  refine sum_congr rfl fun v _ => ?_
  rw [pow_shift c c' (u v)]; ring

end

/-! ## The softmax of `y · ln 2` -/

section
variable {ι : Type*} [Fintype ι] [Nonempty ι] (y : ι → ℝ)

/-- The log-probability of `v` in the softmax of the logits `y · ln 2`. -/
def logp (v : ι) : ℝ := y v * Real.log 2 - Real.log (∑ w, Real.exp (y w * Real.log 2))

/-- The entropy of the softmax of the logits `y · ln 2`. -/
def ent : ℝ := -∑ v, Real.exp (logp y v) * logp y v

/-- The varentropy of the softmax of the logits `y · ln 2`. -/
def varent : ℝ := ∑ v, Real.exp (logp y v) * (logp y v + ent y) ^ 2

/-- The log-probabilities computed after a shift of all logits by any `M`. -/
theorem logp_shift (M : ℝ) (v : ι) :
    (y v * Real.log 2 - M) - Real.log (∑ w, Real.exp (y w * Real.log 2 - M)) = logp y v := by
  have h : ∑ w, Real.exp (y w * Real.log 2 - M) = Real.exp (-M) * ∑ w, Real.exp (y w * Real.log 2) := by
    rw [mul_sum]; exact sum_congr rfl fun w _ => by rw [← Real.exp_add]; congr 1; ring
  have hp : 0 < ∑ w, Real.exp (y w * Real.log 2) := sum_pos (fun _ _ => Real.exp_pos _) univ_nonempty
  rw [h, Real.log_mul (Real.exp_pos _).ne' hp.ne', Real.log_exp, logp]; ring

theorem two_rpow (x : ℝ) : (2 : ℝ) ^ x = Real.exp (x * Real.log 2) := by
  rw [Real.rpow_def_of_pos (by norm_num), mul_comm]

theorem moment0_pos (c : ℝ) : 0 < moment univ y c 0 :=
  sum_pos (fun _ _ => by rw [pow_zero, mul_one]; exact Real.rpow_pos_of_pos (by norm_num) _) univ_nonempty

/-- The log-probability in terms of the weight about `c`. -/
theorem logp_eq (c : ℝ) (v : ι) :
    logp y v = (y v - (c + Real.log (moment univ y c 0) * (Real.log 2)⁻¹)) * Real.log 2 := by
  have h2 : Real.log 2 ≠ 0 := (Real.log_pos (by norm_num)).ne'
  have hm : moment univ y c 0 = ∑ w, Real.exp (y w * Real.log 2 - c * Real.log 2) := by
    simp only [moment, pow_zero, mul_one]
    exact sum_congr rfl fun w _ => by rw [two_rpow]; congr 1; ring
  rw [← logp_shift y (c * Real.log 2) v, ← hm]
  field_simp
  ring

/-- The probability in terms of the weight about `c`. -/
theorem exp_logp (c : ℝ) (v : ι) :
    Real.exp (logp y v) = (2 : ℝ) ^ (y v - c) / moment univ y c 0 := by
  have h2 : Real.log 2 ≠ 0 := (Real.log_pos (by norm_num)).ne'
  have e : logp y v = (y v - c) * Real.log 2 - Real.log (moment univ y c 0) := by
    rw [logp_eq y c v]; field_simp; ring
  rw [e, Real.exp_sub, Real.exp_log (moment0_pos y c), two_rpow]

/-- The entropy in terms of the moments about `c`. -/
theorem ent_eq (c : ℝ) :
    ent y = (Real.log (moment univ y c 0) * (Real.log 2)⁻¹ - moment univ y c 1 / moment univ y c 0)
      * Real.log 2 := by
  have h2 : Real.log 2 ≠ 0 := (Real.log_pos (by norm_num)).ne'
  have h0 := (moment0_pos y c).ne'
  have e : ∀ v, Real.exp (logp y v) * logp y v
      = (Real.log 2 / moment univ y c 0) * ((2 : ℝ) ^ (y v - c) * (y v - c) ^ 1)
        - (Real.log (moment univ y c 0) / moment univ y c 0) * ((2 : ℝ) ^ (y v - c) * (y v - c) ^ 0) := by
    intro v
    rw [exp_logp y c v, logp_eq y c v]; field_simp; ring
  have : ∑ v, Real.exp (logp y v) * logp y v
      = (Real.log 2 / moment univ y c 0) * moment univ y c 1
        - (Real.log (moment univ y c 0) / moment univ y c 0) * moment univ y c 0 := by
    rw [sum_congr rfl fun v _ => e v, sum_sub_distrib, ← mul_sum, ← mul_sum]; rfl
  rw [ent, this]; field_simp; ring

/-- The varentropy in terms of the moments about `c`. -/
theorem varent_eq (c : ℝ) :
    varent y = (moment univ y c 2 / moment univ y c 0
      - moment univ y c 1 / moment univ y c 0 * (moment univ y c 1 / moment univ y c 0))
      * (Real.log 2 * Real.log 2) := by
  have h2 : Real.log 2 ≠ 0 := (Real.log_pos (by norm_num)).ne'
  have h0 := (moment0_pos y c).ne'
  set t0 := moment univ y c 0 with ht0
  set t1 := moment univ y c 1 with ht1
  have e : ∀ v, Real.exp (logp y v) * (logp y v + ent y) ^ 2
      = (Real.log 2 ^ 2 / t0) * ((2 : ℝ) ^ (y v - c) * (y v - c) ^ 2)
        - (Real.log 2 ^ 2 * 2 * t1 / t0 ^ 2) * ((2 : ℝ) ^ (y v - c) * (y v - c) ^ 1)
        + (Real.log 2 ^ 2 * t1 ^ 2 / t0 ^ 3) * ((2 : ℝ) ^ (y v - c) * (y v - c) ^ 0) := by
    intro v
    rw [exp_logp y c v, logp_eq y c v, ent_eq y c, ← ht0, ← ht1]; field_simp; ring
  have : varent y = (Real.log 2 ^ 2 / t0) * moment univ y c 2
        - (Real.log 2 ^ 2 * 2 * t1 / t0 ^ 2) * t1
        + (Real.log 2 ^ 2 * t1 ^ 2 / t0 ^ 3) * t0 := by
    rw [varent, sum_congr rfl fun v _ => e v, sum_add_distrib, sum_sub_distrib, ← mul_sum, ← mul_sum, ← mul_sum]; rfl
  rw [this]; field_simp; ring

end

end Cert.SoftmaxMath

end
-- ==== Proof.Logit.lean ====
module

public import proofs.«01_k».proof.Proof.Math
public import Idealize.ShloMosaic.PureOps.Ideal
public import Idealize.ShloMosaic.Lib.Pointwise

@[expose] public section

noncomputable section

/-! # The logits

Each logit over `ln 2`, as a function of the six arguments; the arguments are read as arrays of extended reals. -/

namespace Cert.SoftmaxMath

open Idealize.ShloMosaic Finset

/-- A capped logit over `ln 2`, from the product `z`, the two scales and the temperature. -/
def ylog (z xs w T : EReal) : EReal :=
  Ideal.tanh (z * (xs * ((1 / 30 : ℝ) : EReal)) * w) * Ideal.div ((30 * (Real.log 2)⁻¹ : ℝ) : EReal) T

/-- A hyperbolic tangent is real. -/
theorem tanh_real (a : EReal) : ∃ r : ℝ, Ideal.tanh a = (r : EReal) := by
  induction a with
  | bot => exact ⟨-1, rfl⟩
  | top => exact ⟨1, rfl⟩
  | coe r => exact ⟨Real.tanh r, rfl⟩

/-- Dividing by a nonzero number multiplies by a real. -/
theorem div_nonzero {T : EReal} (hT : T ≠ 0) : ∃ d : ℝ, ∀ x, Ideal.div x T = x * (d : EReal) := by
  induction T with
  | bot => exact ⟨0, fun x => by rw [Ideal.div, if_neg hT, EReal.inv_bot]; rfl⟩
  | top => exact ⟨0, fun x => by rw [Ideal.div, if_neg hT, EReal.inv_top]; rfl⟩
  | coe r => exact ⟨r⁻¹, fun x => by rw [Ideal.div, if_neg hT, EReal.coe_inv]⟩

/-- With a nonzero temperature a logit is real. -/
theorem ylog_real (z xs w : EReal) {T : EReal} (hT : T ≠ 0) : ylog z xs w T = ((ylog z xs w T).toReal : EReal) := by
  obtain ⟨d, hd⟩ := div_nonzero hT
  obtain ⟨r, hr⟩ := tanh_real (z * (xs * ((1 / 30 : ℝ) : EReal)) * w)
  have h : ylog z xs w T = ((r * (30 * (Real.log 2)⁻¹ * d) : ℝ) : EReal) := by
    rw [ylog, hr, hd, ← EReal.coe_mul, ← EReal.coe_mul]
  rw [h, EReal.toReal_coe]

/-- The capped logit as the mathematics spells it. -/
theorem ylog_spec (z xs w : EReal) {T : EReal} (hT : T ≠ 0) :
    Ideal.div (((30 : ℝ) : EReal) * Ideal.tanh (Ideal.div (z * xs * w) ((30 : ℝ) : EReal))) T
      = (((ylog z xs w T).toReal * Real.log 2 : ℝ) : EReal) := by
  have h2 : Real.log 2 ≠ 0 := (Real.log_pos (by norm_num)).ne'
  obtain ⟨d, hd⟩ := div_nonzero hT
  have ha : z * (xs * ((1 / 30 : ℝ) : EReal)) * w = Ideal.div (z * xs * w) ((30 : ℝ) : EReal) := by
    rw [Ideal.div_coe (by norm_num), mul_assoc z, mul_right_comm xs, ← mul_assoc, ← mul_assoc]
  obtain ⟨r, hr⟩ := tanh_real (Ideal.div (z * xs * w) ((30 : ℝ) : EReal))
  have h : ylog z xs w T = ((r * (30 * (Real.log 2)⁻¹ * d) : ℝ) : EReal) := by
    rw [ylog, ha, hr, hd, ← EReal.coe_mul, ← EReal.coe_mul]
  rw [h, EReal.toReal_coe, hr, hd, ← EReal.coe_mul, ← EReal.coe_mul]
  congr 1
  field_simp

variable (a0 : (⟨3, ![3, 128, 7168]⟩ : Shape).Idx → EReal) (a1 : (⟨2, ![3, 128]⟩ : Shape).Idx → EReal)
  (a2 : (⟨2, ![49152, 7168]⟩ : Shape).Idx → EReal) (a3 : (⟨1, ![49152]⟩ : Shape).Idx → EReal)
  (a5 : (⟨2, ![3, 128]⟩ : Shape).Idx → EReal)

/-- Position `s` of batch `b`'s logit of vocabulary entry `v`, over `ln 2`. -/
def yAt (b : Fin 3) (s : Fin 128) (v : Fin 49152) : EReal :=
  ylog (∑ k : Fin 7168, a0 (ix3 b s k) * a2 (ix2 v k)) (a1 (ix2 b s)) (a3 (ix1 v)) (a5 (ix2 b s))

/-- The same, as a real. -/
def yReal (b : Fin 3) (s : Fin 128) (v : Fin 49152) : ℝ := (yAt a0 a1 a2 a3 a5 b s v).toReal

/-- The vocabulary as 384 chunks of 128 lanes. -/
def chunks : Fin 384 × Fin 128 ≃ Fin 49152 where
  toFun p := ⟨128 * p.1.val + p.2.val, by have := p.1.isLt; have := p.2.isLt; omega⟩
  invFun v := (⟨v.val / 128, by omega⟩, ⟨v.val % 128, Nat.mod_lt _ (by decide)⟩)
  left_inv p := by
    apply Prod.ext
    · apply Fin.ext; show (128 * p.1.val + p.2.val) / 128 = p.1.val; omega
    · apply Fin.ext; show (128 * p.1.val + p.2.val) % 128 = p.2.val; omega
  right_inv v := by apply Fin.ext; show 128 * (v.val / 128) + v.val % 128 = v.val; omega

section
variable {ι κ : Type*} [Fintype ι] [Fintype κ] (e : ι ≃ κ) (y : κ → ℝ)

/-- Log-probabilities do not depend on how the vocabulary is numbered. -/
theorem logp_equiv (v : ι) : logp (fun i => y (e i)) v = logp y (e v) := by
  unfold logp
  rw [Equiv.sum_comp e (fun w => Real.exp (y w * Real.log 2))]

/-- Nor does the entropy. -/
theorem ent_equiv : ent (fun i => y (e i)) = ent y := by
  unfold ent
  simp only [logp_equiv]
  rw [Equiv.sum_comp e (fun w => Real.exp (logp y w) * logp y w)]

/-- Nor does the varentropy. -/
theorem varent_equiv : varent (fun i => y (e i)) = varent y := by
  unfold varent
  simp only [logp_equiv, ent_equiv]
  rw [Equiv.sum_comp e (fun w => Real.exp (logp y w) * (logp y w + ent y) ^ 2)]

end

end Cert.SoftmaxMath
-- ==== Proof.KStep.lean ====
module

public import proofs.«01_k».proof.Proof.Gen.KernelIdeal.Value

@[expose] public section

set_option maxRecDepth 16384
set_option maxHeartbeats 4000000

noncomputable section

/-! # One grid point of the kernel, group by group

At every grid point the kernel walks over twelve groups of 32 rows. This module writes down once what a group loads
and what it stores, and shows that the pieces the generated runs leave in the five running scratch buffers are exactly
these stores. -/

namespace Cert.KernelIdeal.Step

open Idealize.ShloMosaic Idealize.ShloMosaic.TcCoe Idealize.ShloMosaic.Tactic
open Cert.KernelIdeal Cert.KernelIdeal.Gen

variable {F : FTy → Type} [FloatOps F] [Named F]

/-- The scaled and capped products of one group with 128 vocabulary entries. -/
def yv (z xs c : Vec F S32x128 .f32) (w : Vec F S1x128 .f32) : FVec F S32x128 .f32 :=
  mulf (tanh (mulf (mulf z xs)
    (broadcastTo S32x128 (shapeCast S1x128 w shapeCasts_S1x128_S1x128) broadcasts_S1x128_S32x128))) c

/-- The lane that the target's low bits name. -/
def gidx (lo : Vec F S32x128 .i32) : IVec S32x128 32 :=
  shapeCast S32x128 (shapeCast S32x128x1
    (select (cmpi .slt lo (broadcast S32x128 0#32)) (addi lo (broadcast S32x128 128#32)) lo)
    shapeCasts_S32x128_S32x128x1) shapeCasts_S32x128x1_S32x128

/-- Replace the target value by the picked lane where the target lies in chunk `n`. -/
def pick (hi lo : Vec F S32x128 .i32) (n : BitVec 32) (y prev : FVec F S32x128 .f32) : FVec F S32x128 .f32 :=
  select (cmpi .eq hi (broadcast S32x128 n)) (dynamicGather 1 y (gidx (F := F) lo)) prev

/-- What one group of 32 rows loads. -/
structure Grp (F : FTy → Type) where
  z0 : Vec F S32x128 .f32
  z1 : Vec F S32x128 .f32
  z2 : Vec F S32x128 .f32
  z3 : Vec F S32x128 .f32
  w0 : Vec F S1x128 .f32
  w1 : Vec F S1x128 .f32
  w2 : Vec F S1x128 .f32
  w3 : Vec F S1x128 .f32
  xs : Vec F S32x128 .f32
  c : Vec F S32x128 .f32
  hi : Vec F S32x128 .i32
  lo : Vec F S32x128 .i32
  m : Vec F S32x128 .f32
  s0 : Vec F S32x128 .f32
  s1 : Vec F S32x128 .f32
  s2 : Vec F S32x128 .f32
  yt : Vec F S32x128 .f32

namespace Grp

variable (g : Grp F)

/-- The four chunks' values. -/
def y0 : FVec F S32x128 .f32 := yv g.z0 g.xs g.c g.w0
/-- The second chunk's values. -/
def y1 : FVec F S32x128 .f32 := yv g.z1 g.xs g.c g.w1
/-- The third chunk's values. -/
def y2 : FVec F S32x128 .f32 := yv g.z2 g.xs g.c g.w2
/-- The fourth chunk's values. -/
def y3 : FVec F S32x128 .f32 := yv g.z3 g.xs g.c g.w3

/-- The new running maximum. -/
def mx : FVec F S32x128 .f32 := maximumf (maximumf (maximumf (maximumf g.y0 g.y1) g.y2) g.y3) g.m
/-- How far the maximum moved. -/
def dm : FVec F S32x128 .f32 := subf g.m g.mx
/-- The old moments' factor. -/
def a : FVec F S32x128 .f32 := exp2 g.dm
/-- The first moment about the new maximum, before its factor. -/
def p : FVec F S32x128 .f32 := addf g.s1 (mulf g.dm g.s0)
/-- One chunk's term of the zeroth moment. -/
def e (y : FVec F S32x128 .f32) : FVec F S32x128 .f32 := exp2 (subf y g.mx)
/-- One chunk's term of the first moment. -/
def ed (y : FVec F S32x128 .f32) : FVec F S32x128 .f32 := mulf (g.e y) (subf y g.mx)
/-- One chunk's term of the second moment. -/
def edd (y : FVec F S32x128 .f32) : FVec F S32x128 .f32 := mulf (g.ed y) (subf y g.mx)

/-- The running maximum stored. -/
def storeM : FVec F S32x128 .f32 := shapeCast S32x128 g.mx shapeCasts_S32x128_S32x128
/-- The zeroth moment stored. -/
def storeS0 : FVec F S32x128 .f32 :=
  shapeCast S32x128 (addf (addf (addf (addf (mulf g.a g.s0) (g.e g.y0)) (g.e g.y1)) (g.e g.y2)) (g.e g.y3))
    shapeCasts_S32x128_S32x128
/-- The first moment stored. -/
def storeS1 : FVec F S32x128 .f32 :=
  shapeCast S32x128 (addf (addf (addf (addf (mulf g.a g.p) (g.ed g.y0)) (g.ed g.y1)) (g.ed g.y2)) (g.ed g.y3))
    shapeCasts_S32x128_S32x128
/-- The second moment stored. -/
def storeS2 : FVec F S32x128 .f32 :=
  shapeCast S32x128 (addf (addf (addf (addf (mulf g.a (addf g.s2 (mulf g.dm (addf g.s1 g.p)))) (g.edd g.y0))
    (g.edd g.y1)) (g.edd g.y2)) (g.edd g.y3)) shapeCasts_S32x128_S32x128
/-- The target value stored. -/
def storeYt (n : BitVec 32) : FVec F S32x128 .f32 :=
  shapeCast S32x128 (pick g.hi g.lo (Scalar.addi n 3#32) g.y3 (pick g.hi g.lo (Scalar.addi n 2#32) g.y2
    (pick g.hi g.lo (Scalar.addi n 1#32) g.y1 (pick g.hi g.lo (Scalar.addi n 0#32) g.y0 g.yt))))
    shapeCasts_S32x128_S32x128

end Grp

/-- The first chunk's number at a grid point. -/
def chunk0 (i : grid0.Coords) : BitVec 32 := Scalar.muli (BitVec.ofNat 32 (i 0).val) 4#32

theorem inb_rows (g : Fin 12) : ∀ d, (![32 * g.val, 0] : Fin 2 → ℕ) d + S32x128.size d ≤ S384x128.size d := by
  intro d; have := g.isLt
  fin_cases d
  · show 32 * g.val + 32 ≤ 384; omega
  · show 0 + 128 ≤ 128; omega

theorem inb_z (g : Fin 12) (j : Fin 4) :
    ∀ d, (![32 * g.val, 128 * j.val] : Fin 2 → ℕ) d + S32x128.size d ≤ S384x512.size d := by
  intro d; have := g.isLt; have := j.isLt
  fin_cases d
  · show 32 * g.val + 32 ≤ 384; omega
  · show 128 * j.val + 128 ≤ 512; omega

theorem inb_w (j : Fin 4) : ∀ d, (![0, 128 * j.val] : Fin 2 → ℕ) d + S1x128.size d ≤ S1x512.size d := by
  intro d; have := j.isLt
  fin_cases d
  · show 0 + 1 ≤ 1; omega
  · show 128 * j.val + 128 ≤ 512; omega

/-- The rows of group `g` in a scratch buffer. -/
def rows (g : Fin 12) : Rect S384x128 := Rect.unit ![32 * g.val, 0] S32x128.size (inb_rows g)
/-- The rows of group `g` and the columns of chunk `j` in the product. -/
def zrect (g : Fin 12) (j : Fin 4) : Rect S384x512 := Rect.unit ![32 * g.val, 128 * j.val] S32x128.size (inb_z g j)
/-- The columns of chunk `j` in the block of weights' scales. -/
def wrect (j : Fin 4) : Rect S1x512 := Rect.unit ![0, 128 * j.val] S1x128.size (inb_w j)

/-- The twelve groups' stores, the last one first. -/
def pieces {e : EltTy} (pay : Fin 12 → Vec F S32x128 e) : List (View.Piece (Elt F) S384x128 e) :=
  [⟨rows 11, pay 11⟩, ⟨rows 10, pay 10⟩, ⟨rows 9, pay 9⟩, ⟨rows 8, pay 8⟩, ⟨rows 7, pay 7⟩, ⟨rows 6, pay 6⟩,
   ⟨rows 5, pay 5⟩, ⟨rows 4, pay 4⟩, ⟨rows 3, pay 3⟩, ⟨rows 2, pay 2⟩, ⟨rows 1, pay 1⟩, ⟨rows 0, pay 0⟩]

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec F S3x128 .f32) (x1 : Vec F S3x128 .f32) (x2 : Vec F S384x7 .i32) (x3 : Vec F S384x7168 .fp8e4m3) (x4 : Vec F S1x512 .f32) (x5 : Vec F S512x7168 .fp8e4m3)
variable (xs1 : Vec F S384x128 .f32) (xs2 : Vec F S384x128 .f32) (xs3 : Vec F S384x128 .i32) (xs4 : Vec F S384x128 .i32) (xs5 : Vec F S384x128 .f32) (xs6 : Vec F S384x128 .f32) (xs7 : Vec F S384x128 .f32) (xs8 : Vec F S384x128 .f32) (xs9 : Vec F S384x128 .f32)

/-- The piece that the product leaves in its buffer. -/
def zpiece : List (View.Piece (Elt F) S384x512 .f32) :=
  [⟨Rect.unit ![0, 0] S384x512.size inb_S384x512_S384x512_0_0,
    k0_pay63 (View.readAt (Elt F) arg4.view (Rect.unit ![0, 0] S384x7168.size inb_S384x7168_S384x7168_0_0).toLoadRect (harg4.unread x3))
      (View.readAt (Elt F) arg6.view (Rect.unit ![0, 0] S512x7168.size inb_S512x7168_S512x7168_0_0).toLoadRect (harg6.unread x5))⟩]

/-- Group `g`'s load of chunk `j` of the product. -/
def zload (g : Fin 12) (j : Fin 4) : Vec F S32x128 .f32 :=
  arg10.view.readCov (zpiece arg4 harg4 arg6 harg6 x3 x5) (zrect g j).toLoadRect

/-- The load of chunk `j` of the weights' scales. -/
def wload (j : Fin 4) : Vec F S1x128 .f32 :=
  View.readAt (Elt F) arg5.view (wrect j).toLoadRect (harg5.unread x4)

/-- What group `g` loads at a grid point that carries the scratch buffers on. -/
def carried (g : Fin 12) : Grp F where
  z0 := zload arg4 harg4 arg6 harg6 arg10 x3 x5 g 0
  z1 := zload arg4 harg4 arg6 harg6 arg10 x3 x5 g 1
  z2 := zload arg4 harg4 arg6 harg6 arg10 x3 x5 g 2
  z3 := zload arg4 harg4 arg6 harg6 arg10 x3 x5 g 3
  w0 := wload arg5 harg5 x4 0
  w1 := wload arg5 harg5 x4 1
  w2 := wload arg5 harg5 x4 2
  w3 := wload arg5 harg5 x4 3
  xs := View.readAt (Elt F) arg11.view (rows g).toLoadRect (harg11.unread xs1)
  c := View.readAt (Elt F) arg12.view (rows g).toLoadRect (harg12.unread xs2)
  hi := View.readAt (Elt F) arg13.view (rows g).toLoadRect (harg13.unread xs3)
  lo := View.readAt (Elt F) arg14.view (rows g).toLoadRect (harg14.unread xs4)
  m := View.readAt (Elt F) arg15.view (rows g).toLoadRect (harg15.unread xs5)
  s0 := View.readAt (Elt F) arg16.view (rows g).toLoadRect (harg16.unread xs6)
  s1 := View.readAt (Elt F) arg17.view (rows g).toLoadRect (harg17.unread xs7)
  s2 := View.readAt (Elt F) arg18.view (rows g).toLoadRect (harg18.unread xs8)
  yt := View.readAt (Elt F) arg19.view (rows g).toLoadRect (harg19.unread xs9)

/-- The stores to the running maximum before each of the twelve groups of the first grid point. -/
def beforeM (c : Dev nD) : Fin 12 → List (View.Piece (Elt F) S384x128 .f32) :=
  ![kernelRun0_A.sl.HS5_1,
     kernelRun0_A.sl.HS5_2 c arg1 harg1 arg2 harg2 arg4 harg4 arg5 harg5 arg6 harg6 arg10 arg11 arg12 arg15 x0 x1 x3 x4 x5,
     kernelRun0_A.sl.HS5_3 c arg1 harg1 arg2 harg2 arg4 harg4 arg5 harg5 arg6 harg6 arg10 arg11 arg12 arg15 x0 x1 x3 x4 x5,
     kernelRun0_A.sl.HS5_4 c arg1 harg1 arg2 harg2 arg4 harg4 arg5 harg5 arg6 harg6 arg10 arg11 arg12 arg15 x0 x1 x3 x4 x5,
     kernelRun0_A.sl.HS5_5 c arg1 harg1 arg2 harg2 arg4 harg4 arg5 harg5 arg6 harg6 arg10 arg11 arg12 arg15 x0 x1 x3 x4 x5,
     kernelRun0_A.sl.HS5_6 c arg1 harg1 arg2 harg2 arg4 harg4 arg5 harg5 arg6 harg6 arg10 arg11 arg12 arg15 x0 x1 x3 x4 x5,
     kernelRun0_A.sl.HS5_7 c arg1 harg1 arg2 harg2 arg4 harg4 arg5 harg5 arg6 harg6 arg10 arg11 arg12 arg15 x0 x1 x3 x4 x5,
     kernelRun0_A.sl.HS5_8 c arg1 harg1 arg2 harg2 arg4 harg4 arg5 harg5 arg6 harg6 arg10 arg11 arg12 arg15 x0 x1 x3 x4 x5,
     kernelRun0_A.sl.HS5_9 c arg1 harg1 arg2 harg2 arg4 harg4 arg5 harg5 arg6 harg6 arg10 arg11 arg12 arg15 x0 x1 x3 x4 x5,
     kernelRun0_A.sl.HS5_10 c arg1 harg1 arg2 harg2 arg4 harg4 arg5 harg5 arg6 harg6 arg10 arg11 arg12 arg15 x0 x1 x3 x4 x5,
     kernelRun0_A.sl.HS5_11 c arg1 harg1 arg2 harg2 arg4 harg4 arg5 harg5 arg6 harg6 arg10 arg11 arg12 arg15 x0 x1 x3 x4 x5,
     kernelRun0_A.sl.HS5_12 c arg1 harg1 arg2 harg2 arg4 harg4 arg5 harg5 arg6 harg6 arg10 arg11 arg12 arg15 x0 x1 x3 x4 x5]

/-- The stores to the zeroth moment before each of the twelve groups of the first grid point. -/
def beforeS0 (c : Dev nD) : Fin 12 → List (View.Piece (Elt F) S384x128 .f32) :=
  ![kernelRun0_A.sl.HS6_1,
     kernelRun0_A.sl.HS6_2 c arg1 harg1 arg2 harg2 arg4 harg4 arg5 harg5 arg6 harg6 arg10 arg11 arg12 arg15 arg16 x0 x1 x3 x4 x5,
     kernelRun0_A.sl.HS6_3 c arg1 harg1 arg2 harg2 arg4 harg4 arg5 harg5 arg6 harg6 arg10 arg11 arg12 arg15 arg16 x0 x1 x3 x4 x5,
     kernelRun0_A.sl.HS6_4 c arg1 harg1 arg2 harg2 arg4 harg4 arg5 harg5 arg6 harg6 arg10 arg11 arg12 arg15 arg16 x0 x1 x3 x4 x5,
     kernelRun0_A.sl.HS6_5 c arg1 harg1 arg2 harg2 arg4 harg4 arg5 harg5 arg6 harg6 arg10 arg11 arg12 arg15 arg16 x0 x1 x3 x4 x5,
     kernelRun0_A.sl.HS6_6 c arg1 harg1 arg2 harg2 arg4 harg4 arg5 harg5 arg6 harg6 arg10 arg11 arg12 arg15 arg16 x0 x1 x3 x4 x5,
     kernelRun0_A.sl.HS6_7 c arg1 harg1 arg2 harg2 arg4 harg4 arg5 harg5 arg6 harg6 arg10 arg11 arg12 arg15 arg16 x0 x1 x3 x4 x5,
     kernelRun0_A.sl.HS6_8 c arg1 harg1 arg2 harg2 arg4 harg4 arg5 harg5 arg6 harg6 arg10 arg11 arg12 arg15 arg16 x0 x1 x3 x4 x5,
     kernelRun0_A.sl.HS6_9 c arg1 harg1 arg2 harg2 arg4 harg4 arg5 harg5 arg6 harg6 arg10 arg11 arg12 arg15 arg16 x0 x1 x3 x4 x5,
     kernelRun0_A.sl.HS6_10 c arg1 harg1 arg2 harg2 arg4 harg4 arg5 harg5 arg6 harg6 arg10 arg11 arg12 arg15 arg16 x0 x1 x3 x4 x5,
     kernelRun0_A.sl.HS6_11 c arg1 harg1 arg2 harg2 arg4 harg4 arg5 harg5 arg6 harg6 arg10 arg11 arg12 arg15 arg16 x0 x1 x3 x4 x5,
     kernelRun0_A.sl.HS6_12 c arg1 harg1 arg2 harg2 arg4 harg4 arg5 harg5 arg6 harg6 arg10 arg11 arg12 arg15 arg16 x0 x1 x3 x4 x5]

/-- The stores to the first moment before each of the twelve groups of the first grid point. -/
def beforeS1 (c : Dev nD) : Fin 12 → List (View.Piece (Elt F) S384x128 .f32) :=
  ![kernelRun0_A.sl.HS7_1,
     kernelRun0_A.sl.HS7_2 c arg1 harg1 arg2 harg2 arg4 harg4 arg5 harg5 arg6 harg6 arg10 arg11 arg12 arg15 arg16 arg17 x0 x1 x3 x4 x5,
     kernelRun0_A.sl.HS7_3 c arg1 harg1 arg2 harg2 arg4 harg4 arg5 harg5 arg6 harg6 arg10 arg11 arg12 arg15 arg16 arg17 x0 x1 x3 x4 x5,
     kernelRun0_A.sl.HS7_4 c arg1 harg1 arg2 harg2 arg4 harg4 arg5 harg5 arg6 harg6 arg10 arg11 arg12 arg15 arg16 arg17 x0 x1 x3 x4 x5,
     kernelRun0_A.sl.HS7_5 c arg1 harg1 arg2 harg2 arg4 harg4 arg5 harg5 arg6 harg6 arg10 arg11 arg12 arg15 arg16 arg17 x0 x1 x3 x4 x5,
     kernelRun0_A.sl.HS7_6 c arg1 harg1 arg2 harg2 arg4 harg4 arg5 harg5 arg6 harg6 arg10 arg11 arg12 arg15 arg16 arg17 x0 x1 x3 x4 x5,
     kernelRun0_A.sl.HS7_7 c arg1 harg1 arg2 harg2 arg4 harg4 arg5 harg5 arg6 harg6 arg10 arg11 arg12 arg15 arg16 arg17 x0 x1 x3 x4 x5,
     kernelRun0_A.sl.HS7_8 c arg1 harg1 arg2 harg2 arg4 harg4 arg5 harg5 arg6 harg6 arg10 arg11 arg12 arg15 arg16 arg17 x0 x1 x3 x4 x5,
     kernelRun0_A.sl.HS7_9 c arg1 harg1 arg2 harg2 arg4 harg4 arg5 harg5 arg6 harg6 arg10 arg11 arg12 arg15 arg16 arg17 x0 x1 x3 x4 x5,
     kernelRun0_A.sl.HS7_10 c arg1 harg1 arg2 harg2 arg4 harg4 arg5 harg5 arg6 harg6 arg10 arg11 arg12 arg15 arg16 arg17 x0 x1 x3 x4 x5,
     kernelRun0_A.sl.HS7_11 c arg1 harg1 arg2 harg2 arg4 harg4 arg5 harg5 arg6 harg6 arg10 arg11 arg12 arg15 arg16 arg17 x0 x1 x3 x4 x5,
     kernelRun0_A.sl.HS7_12 c arg1 harg1 arg2 harg2 arg4 harg4 arg5 harg5 arg6 harg6 arg10 arg11 arg12 arg15 arg16 arg17 x0 x1 x3 x4 x5]

/-- The stores to the second moment before each of the twelve groups of the first grid point. -/
def beforeS2 (c : Dev nD) : Fin 12 → List (View.Piece (Elt F) S384x128 .f32) :=
  ![kernelRun0_A.sl.HS8_1,
     kernelRun0_A.sl.HS8_2 c arg1 harg1 arg2 harg2 arg4 harg4 arg5 harg5 arg6 harg6 arg10 arg11 arg12 arg15 arg16 arg17 arg18 x0 x1 x3 x4 x5,
     kernelRun0_A.sl.HS8_3 c arg1 harg1 arg2 harg2 arg4 harg4 arg5 harg5 arg6 harg6 arg10 arg11 arg12 arg15 arg16 arg17 arg18 x0 x1 x3 x4 x5,
     kernelRun0_A.sl.HS8_4 c arg1 harg1 arg2 harg2 arg4 harg4 arg5 harg5 arg6 harg6 arg10 arg11 arg12 arg15 arg16 arg17 arg18 x0 x1 x3 x4 x5,
     kernelRun0_A.sl.HS8_5 c arg1 harg1 arg2 harg2 arg4 harg4 arg5 harg5 arg6 harg6 arg10 arg11 arg12 arg15 arg16 arg17 arg18 x0 x1 x3 x4 x5,
     kernelRun0_A.sl.HS8_6 c arg1 harg1 arg2 harg2 arg4 harg4 arg5 harg5 arg6 harg6 arg10 arg11 arg12 arg15 arg16 arg17 arg18 x0 x1 x3 x4 x5,
     kernelRun0_A.sl.HS8_7 c arg1 harg1 arg2 harg2 arg4 harg4 arg5 harg5 arg6 harg6 arg10 arg11 arg12 arg15 arg16 arg17 arg18 x0 x1 x3 x4 x5,
     kernelRun0_A.sl.HS8_8 c arg1 harg1 arg2 harg2 arg4 harg4 arg5 harg5 arg6 harg6 arg10 arg11 arg12 arg15 arg16 arg17 arg18 x0 x1 x3 x4 x5,
     kernelRun0_A.sl.HS8_9 c arg1 harg1 arg2 harg2 arg4 harg4 arg5 harg5 arg6 harg6 arg10 arg11 arg12 arg15 arg16 arg17 arg18 x0 x1 x3 x4 x5,
     kernelRun0_A.sl.HS8_10 c arg1 harg1 arg2 harg2 arg4 harg4 arg5 harg5 arg6 harg6 arg10 arg11 arg12 arg15 arg16 arg17 arg18 x0 x1 x3 x4 x5,
     kernelRun0_A.sl.HS8_11 c arg1 harg1 arg2 harg2 arg4 harg4 arg5 harg5 arg6 harg6 arg10 arg11 arg12 arg15 arg16 arg17 arg18 x0 x1 x3 x4 x5,
     kernelRun0_A.sl.HS8_12 c arg1 harg1 arg2 harg2 arg4 harg4 arg5 harg5 arg6 harg6 arg10 arg11 arg12 arg15 arg16 arg17 arg18 x0 x1 x3 x4 x5]

/-- The stores to the target value before each of the twelve groups of the first grid point. -/
def beforeYt (c : Dev nD) : Fin 12 → List (View.Piece (Elt F) S384x128 .f32) :=
  ![kernelRun0_A.sl.HS9_1,
     kernelRun0_A.sl.HS9_2 c i arg1 harg1 arg2 harg2 arg3 harg3 arg4 harg4 arg5 harg5 arg6 harg6 arg10 arg11 arg12 arg13 arg14 arg19 x0 x1 x2 x3 x4 x5,
     kernelRun0_A.sl.HS9_3 c i arg1 harg1 arg2 harg2 arg3 harg3 arg4 harg4 arg5 harg5 arg6 harg6 arg10 arg11 arg12 arg13 arg14 arg19 x0 x1 x2 x3 x4 x5,
     kernelRun0_A.sl.HS9_4 c i arg1 harg1 arg2 harg2 arg3 harg3 arg4 harg4 arg5 harg5 arg6 harg6 arg10 arg11 arg12 arg13 arg14 arg19 x0 x1 x2 x3 x4 x5,
     kernelRun0_A.sl.HS9_5 c i arg1 harg1 arg2 harg2 arg3 harg3 arg4 harg4 arg5 harg5 arg6 harg6 arg10 arg11 arg12 arg13 arg14 arg19 x0 x1 x2 x3 x4 x5,
     kernelRun0_A.sl.HS9_6 c i arg1 harg1 arg2 harg2 arg3 harg3 arg4 harg4 arg5 harg5 arg6 harg6 arg10 arg11 arg12 arg13 arg14 arg19 x0 x1 x2 x3 x4 x5,
     kernelRun0_A.sl.HS9_7 c i arg1 harg1 arg2 harg2 arg3 harg3 arg4 harg4 arg5 harg5 arg6 harg6 arg10 arg11 arg12 arg13 arg14 arg19 x0 x1 x2 x3 x4 x5,
     kernelRun0_A.sl.HS9_8 c i arg1 harg1 arg2 harg2 arg3 harg3 arg4 harg4 arg5 harg5 arg6 harg6 arg10 arg11 arg12 arg13 arg14 arg19 x0 x1 x2 x3 x4 x5,
     kernelRun0_A.sl.HS9_9 c i arg1 harg1 arg2 harg2 arg3 harg3 arg4 harg4 arg5 harg5 arg6 harg6 arg10 arg11 arg12 arg13 arg14 arg19 x0 x1 x2 x3 x4 x5,
     kernelRun0_A.sl.HS9_10 c i arg1 harg1 arg2 harg2 arg3 harg3 arg4 harg4 arg5 harg5 arg6 harg6 arg10 arg11 arg12 arg13 arg14 arg19 x0 x1 x2 x3 x4 x5,
     kernelRun0_A.sl.HS9_11 c i arg1 harg1 arg2 harg2 arg3 harg3 arg4 harg4 arg5 harg5 arg6 harg6 arg10 arg11 arg12 arg13 arg14 arg19 x0 x1 x2 x3 x4 x5,
     kernelRun0_A.sl.HS9_12 c i arg1 harg1 arg2 harg2 arg3 harg3 arg4 harg4 arg5 harg5 arg6 harg6 arg10 arg11 arg12 arg13 arg14 arg19 x0 x1 x2 x3 x4 x5]

/-- What group `g` loads at the first grid point, which starts the scratch buffers. -/
def fresh (c : Dev nD) (g : Fin 12) : Grp F where
  z0 := zload arg4 harg4 arg6 harg6 arg10 x3 x5 g 0
  z1 := zload arg4 harg4 arg6 harg6 arg10 x3 x5 g 1
  z2 := zload arg4 harg4 arg6 harg6 arg10 x3 x5 g 2
  z3 := zload arg4 harg4 arg6 harg6 arg10 x3 x5 g 3
  w0 := wload arg5 harg5 x4 0
  w1 := wload arg5 harg5 x4 1
  w2 := wload arg5 harg5 x4 2
  w3 := wload arg5 harg5 x4 3
  xs := arg11.view.readCov (kernelRun0_A.sl.HS1_3 c arg1 harg1 x0) (rows g).toLoadRect
  c := arg12.view.readCov (kernelRun0_A.sl.HS2_3 c arg2 harg2 x1) (rows g).toLoadRect
  hi := arg13.view.readCov (kernelRun0_A.sl.HS3_2 c arg3 harg3 x2) (rows g).toLoadRect
  lo := arg14.view.readCov (kernelRun0_A.sl.HS4_2 c arg3 harg3 x2) (rows g).toLoadRect
  m := arg15.view.readCov (beforeM arg1 harg1 arg2 harg2 arg4 harg4 arg5 harg5 arg6 harg6 arg10 arg11 arg12 arg15 x0 x1 x3 x4 x5 c g) (rows g).toLoadRect
  s0 := arg16.view.readCov (beforeS0 arg1 harg1 arg2 harg2 arg4 harg4 arg5 harg5 arg6 harg6 arg10 arg11 arg12 arg15 arg16 x0 x1 x3 x4 x5 c g) (rows g).toLoadRect
  s1 := arg17.view.readCov (beforeS1 arg1 harg1 arg2 harg2 arg4 harg4 arg5 harg5 arg6 harg6 arg10 arg11 arg12 arg15 arg16 arg17 x0 x1 x3 x4 x5 c g) (rows g).toLoadRect
  s2 := arg18.view.readCov (beforeS2 arg1 harg1 arg2 harg2 arg4 harg4 arg5 harg5 arg6 harg6 arg10 arg11 arg12 arg15 arg16 arg17 arg18 x0 x1 x3 x4 x5 c g) (rows g).toLoadRect
  yt := arg19.view.readCov (beforeYt i arg1 harg1 arg2 harg2 arg3 harg3 arg4 harg4 arg5 harg5 arg6 harg6 arg10 arg11 arg12 arg13 arg14 arg19 x0 x1 x2 x3 x4 x5 c g) (rows g).toLoadRect

end Cert.KernelIdeal.Step
-- ==== Proof.GroupValue.lean ====
module

public import proofs.«01_k».proof.Proof.KStep
public import proofs.«01_k».proof.Proof.Math
public import Idealize.ShloMosaic.PureOps.Ideal
public import Idealize.ShloMosaic.Lib.Pointwise

@[expose] public section

set_option maxRecDepth 16384

noncomputable section

/-! # What one group's stores are worth

At the extended reals, lane by lane. -/

namespace Cert.KernelIdeal.Step

open Idealize.ShloMosaic Idealize.ShloMosaic.TcCoe Idealize.ShloMosaic.Tactic
open Cert.KernelIdeal Cert.KernelIdeal.Gen

/-- One lane of a group's chunk. -/
theorem yv_apply (z xs c : Vec Ideal S32x128 .f32) (w : Vec Ideal S1x128 .f32) (r : Fin 32) (l : Fin 128) :
    yv z xs c w (ix2 r l) = Ideal.tanh (z (ix2 r l) * xs (ix2 r l) * w (ix2 0 l)) * c (ix2 r l) := by
  unfold yv; pointwise; try rfl

variable (g : Grp Ideal) (r : Fin 32) (l : Fin 128)

/-- The stored maximum. -/
theorem storeM_apply : g.storeM (ix2 r l) = max (max (max (max (g.y0 (ix2 r l)) (g.y1 (ix2 r l))) (g.y2 (ix2 r l))) (g.y3 (ix2 r l))) (g.m (ix2 r l)) := by
  unfold Grp.storeM Grp.mx; pointwise; try rfl

/-- The new maximum. -/
theorem mx_apply : g.mx (ix2 r l) = max (max (max (max (g.y0 (ix2 r l)) (g.y1 (ix2 r l))) (g.y2 (ix2 r l))) (g.y3 (ix2 r l))) (g.m (ix2 r l)) := by
  unfold Grp.mx; pointwise; try rfl

/-- One chunk's term of the zeroth moment. -/
theorem e_apply (y : FVec Ideal S32x128 .f32) : g.e y (ix2 r l) = Ideal.exp2 (y (ix2 r l) - g.mx (ix2 r l)) := by
  unfold Grp.e; pointwise; try rfl
/-- One chunk's term of the first moment. -/
theorem ed_apply (y : FVec Ideal S32x128 .f32) : g.ed y (ix2 r l) = Ideal.exp2 (y (ix2 r l) - g.mx (ix2 r l)) * (y (ix2 r l) - g.mx (ix2 r l)) := by
  unfold Grp.ed Grp.e; pointwise; try rfl
/-- One chunk's term of the second moment. -/
theorem edd_apply (y : FVec Ideal S32x128 .f32) : g.edd y (ix2 r l) = Ideal.exp2 (y (ix2 r l) - g.mx (ix2 r l)) * (y (ix2 r l) - g.mx (ix2 r l)) * (y (ix2 r l) - g.mx (ix2 r l)) := by
  unfold Grp.edd Grp.ed Grp.e; pointwise; try rfl

/-- The stored zeroth moment. -/
theorem storeS0_apply : g.storeS0 (ix2 r l) = Ideal.exp2 (g.m (ix2 r l) - g.mx (ix2 r l)) * g.s0 (ix2 r l)
    + g.e g.y0 (ix2 r l) + g.e g.y1 (ix2 r l) + g.e g.y2 (ix2 r l) + g.e g.y3 (ix2 r l) := by
  unfold Grp.storeS0 Grp.a Grp.dm; pointwise; try rfl
/-- The stored first moment. -/
theorem storeS1_apply : g.storeS1 (ix2 r l) = Ideal.exp2 (g.m (ix2 r l) - g.mx (ix2 r l)) * (g.s1 (ix2 r l) + (g.m (ix2 r l) - g.mx (ix2 r l)) * g.s0 (ix2 r l))
    + g.ed g.y0 (ix2 r l) + g.ed g.y1 (ix2 r l) + g.ed g.y2 (ix2 r l) + g.ed g.y3 (ix2 r l) := by
  unfold Grp.storeS1 Grp.a Grp.p Grp.dm; pointwise; try rfl
/-- The stored second moment. -/
theorem storeS2_apply : g.storeS2 (ix2 r l) = Ideal.exp2 (g.m (ix2 r l) - g.mx (ix2 r l)) * (g.s2 (ix2 r l) + (g.m (ix2 r l) - g.mx (ix2 r l)) * (g.s1 (ix2 r l) + (g.s1 (ix2 r l) + (g.m (ix2 r l) - g.mx (ix2 r l)) * g.s0 (ix2 r l))))
    + g.edd g.y0 (ix2 r l) + g.edd g.y1 (ix2 r l) + g.edd g.y2 (ix2 r l) + g.edd g.y3 (ix2 r l) := by
  unfold Grp.storeS2 Grp.a Grp.p Grp.dm; pointwise; try rfl

/-- Low bits below 128 name their own lane. -/
theorem gidx_apply (lo : Vec Ideal S32x128 .i32) (q : ℕ) (hq : q < 128) (h : lo (ix2 r l) = BitVec.ofNat 32 q) :
    (gidx (F := Ideal) lo (ix2 r l)).toNat % 128 = q := by
  have hs : gidx (F := Ideal) lo (ix2 r l) =
      Scalar.select (IntOp.cmpi CmpIPredicate.slt (lo (ix2 r l)) 0#32) (IntOp.addi (lo (ix2 r l)) 128#32) (lo (ix2 r l)) := by
    unfold gidx; pointwise
  have hneg : IntOp.cmpi CmpIPredicate.slt (BitVec.ofNat 32 q) 0#32 = 0#1 := by
    have : (BitVec.ofNat 32 q).slt 0#32 = false := by
      rw [BitVec.slt_eq_decide, decide_eq_false_iff_not]
      rw [BitVec.toInt_eq_toNat_of_lt (by rw [BitVec.toNat_ofNat, Nat.mod_eq_of_lt (by omega)]; omega)]
      simp; omega
    simp [IntOp.cmpi, this]
  rw [hs, h, hneg]
  simp [Scalar.select]; omega

/-- The pick at a lane. -/
theorem pick_apply (hi lo : Vec Ideal S32x128 .i32) (n : BitVec 32) (y prev : FVec Ideal S32x128 .f32) (q : Fin 128)
    (h : lo (ix2 r l) = BitVec.ofNat 32 q.val) :
    pick hi lo n y prev (ix2 r l) = if hi (ix2 r l) = n then y (ix2 r q) else prev (ix2 r l) := by
  have hq : (⟨(gidx (F := Ideal) lo (ix2 r l)).toNat % 128, Nat.mod_lt _ (by decide)⟩ : Fin 128) = q :=
    Fin.ext (gidx_apply r l lo q.val q.isLt h)
  have hp : pick hi lo n y prev (ix2 r l) = Scalar.select (IntOp.cmpi CmpIPredicate.eq (hi (ix2 r l)) n)
      (y (ix2 r ⟨(gidx (F := Ideal) lo (ix2 r l)).toNat % 128, Nat.mod_lt _ (by decide)⟩)) (prev (ix2 r l)) := by
    unfold pick; pointwise
  rw [hp, hq]
  by_cases hn : hi (ix2 r l) = n
  · simp [IntOp.cmpi, Scalar.select, hn]
  · have : (hi (ix2 r l) == n) = false := by simpa using hn
    simp [IntOp.cmpi, Scalar.select, hn, this]

/-- The largest of finitely many reals is a real. -/
theorem max_coe (a b : ℝ) : max (a : EReal) (b : EReal) = ((max a b : ℝ) : EReal) := (EReal.coe_strictMono.monotone.map_max).symm

open Cert.SoftmaxMath in
/-- One group's step on a lane whose values are real: if the carried moments are those of the chunks before `N`, the
stored ones are those of the chunks before `N + 4`, about some new reference point. -/
theorem moments_step (u : ℕ → ℝ) (N : ℕ) (M : ℝ)
    (h0 : g.y0 (ix2 r l) = (u N : EReal)) (h1 : g.y1 (ix2 r l) = (u (N + 1) : EReal))
    (h2 : g.y2 (ix2 r l) = (u (N + 2) : EReal)) (h3 : g.y3 (ix2 r l) = (u (N + 3) : EReal))
    (hm : g.m (ix2 r l) = (M : EReal))
    (hs0 : g.s0 (ix2 r l) = (moment (Finset.range N) u M 0 : EReal))
    (hs1 : g.s1 (ix2 r l) = (moment (Finset.range N) u M 1 : EReal))
    (hs2 : g.s2 (ix2 r l) = (moment (Finset.range N) u M 2 : EReal)) :
    ∃ M' : ℝ, g.storeM (ix2 r l) = (M' : EReal)
      ∧ g.storeS0 (ix2 r l) = (moment (Finset.range (N + 4)) u M' 0 : EReal)
      ∧ g.storeS1 (ix2 r l) = (moment (Finset.range (N + 4)) u M' 1 : EReal)
      ∧ g.storeS2 (ix2 r l) = (moment (Finset.range (N + 4)) u M' 2 : EReal) := by
  obtain ⟨M', hM⟩ : ∃ M' : ℝ, max (max (max (max (u N : EReal) (u (N + 1))) (u (N + 2))) (u (N + 3))) (M : EReal) = (M' : EReal) :=
    ⟨max (max (max (max (u N) (u (N + 1))) (u (N + 2))) (u (N + 3))) M, by simp only [max_coe]⟩
  have hmx : g.mx (ix2 r l) = (M' : EReal) := by rw [mx_apply, h0, h1, h2, h3, hm, hM]
  have hstep (k : ℕ) : moment (Finset.range (N + 4)) u M' k = moment (Finset.range N) u M' k
      + (2 : ℝ) ^ (u N - M') * (u N - M') ^ k + (2 : ℝ) ^ (u (N + 1) - M') * (u (N + 1) - M') ^ k
      + (2 : ℝ) ^ (u (N + 2) - M') * (u (N + 2) - M') ^ k + (2 : ℝ) ^ (u (N + 3) - M') * (u (N + 3) - M') ^ k := by
    simp only [moment, Finset.sum_range_succ]
  refine ⟨M', by rw [storeM_apply, h0, h1, h2, h3, hm, hM], ?_, ?_, ?_⟩
  · rw [storeS0_apply, e_apply, e_apply, e_apply, e_apply, hmx, h0, h1, h2, h3, hm, hs0, hstep,
      moment_shift0 _ _ M M']
    simp only [← EReal.coe_sub, Ideal.exp2_coe, ← EReal.coe_mul, ← EReal.coe_add, Real.rpow_eq_pow, pow_zero, mul_one]
  · rw [storeS1_apply, ed_apply, ed_apply, ed_apply, ed_apply, hmx, h0, h1, h2, h3, hm, hs0, hs1, hstep,
      moment_shift1 _ _ M M']
    simp only [← EReal.coe_sub, Ideal.exp2_coe, ← EReal.coe_mul, ← EReal.coe_add, Real.rpow_eq_pow, pow_one]
  · rw [storeS2_apply, edd_apply, edd_apply, edd_apply, edd_apply, hmx, h0, h1, h2, h3, hm, hs0, hs1, hs2, hstep,
      moment_shift2 _ _ M M']
    simp only [← EReal.coe_sub, Ideal.exp2_coe, ← EReal.coe_mul, ← EReal.coe_add, Real.rpow_eq_pow, pow_two, mul_assoc]

/-- One group's step on a target: once the target's chunk is among the chunks before `N + 4`, the stored value is the
target's. -/
theorem target_step (U : ℕ → Fin 128 → ℝ) (N t : ℕ) (q : Fin 128) (hN : N + 4 ≤ 384) (ht : t < 384)
    (h0 : ∀ l, g.y0 (ix2 r l) = (U N l : EReal)) (h1 : ∀ l, g.y1 (ix2 r l) = (U (N + 1) l : EReal))
    (h2 : ∀ l, g.y2 (ix2 r l) = (U (N + 2) l : EReal)) (h3 : ∀ l, g.y3 (ix2 r l) = (U (N + 3) l : EReal))
    (hhi : g.hi (ix2 r l) = BitVec.ofNat 32 t) (hlo : g.lo (ix2 r l) = BitVec.ofNat 32 q.val)
    (hyt : t < N → g.yt (ix2 r l) = (U t q : EReal)) (n : BitVec 32) (hn : n = BitVec.ofNat 32 N) :
    t < N + 4 → g.storeYt n (ix2 r l) = (U t q : EReal) := by
  intro h
  have hS : g.storeYt n (ix2 r l) = pick g.hi g.lo (n + 3#32) g.y3 (pick g.hi g.lo (n + 2#32) g.y2
      (pick g.hi g.lo (n + 1#32) g.y1 (pick g.hi g.lo (n + 0#32) g.y0 g.yt))) (ix2 r l) := by
    unfold Grp.storeYt; pointwise; rfl
  have hw (k : ℕ) (hk : k < 4) : (BitVec.ofNat 32 t = n + BitVec.ofNat 32 k) ↔ t = N + k := by
    rw [hn, ← BitVec.ofNat_add, ← BitVec.toNat_inj, BitVec.toNat_ofNat, BitVec.toNat_ofNat,
      Nat.mod_eq_of_lt (by omega), Nat.mod_eq_of_lt (by omega)]
  rw [hS, pick_apply r l _ _ _ _ _ q hlo, pick_apply r l _ _ _ _ _ q hlo, pick_apply r l _ _ _ _ _ q hlo,
    pick_apply r l _ _ _ _ _ q hlo, hhi]
  simp only [hw 3 (by decide), hw 2 (by decide), hw 1 (by decide), hw 0 (by decide), h0, h1, h2, h3]
  split_ifs with a b c d
  · rw [a]
  · rw [b]
  · rw [c]
  · rw [d]; rfl
  · exact hyt (by omega)

end Cert.KernelIdeal.Step
-- ==== Proof.State.lean ====
module

public import proofs.«01_k».proof.Proof.GroupValue

@[expose] public section

set_option maxRecDepth 16384

noncomputable section

/-! # The state between grid points

What the scratch buffers hold after the chunks before `N`, and that one grid point's group stores carry it to `N + 4`. -/

namespace Cert.KernelIdeal.Step

open Idealize.ShloMosaic Idealize.ShloMosaic.TcCoe Idealize.ShloMosaic.Tactic
open Cert.KernelIdeal Cert.KernelIdeal.Gen Cert.SoftmaxMath

/-- Row `r` of group `g`. -/
def row (g : Fin 12) (r : Fin 32) : Fin 384 := ⟨32 * g.val + r.val, by omega⟩

/-- Every row is a row of some group. -/
theorem exists_row (R : Fin 384) : ∃ g r, R = row g r :=
  ⟨⟨R.val / 32, by omega⟩, ⟨R.val % 32, by omega⟩, Fin.ext (by show R.val = 32 * (R.val / 32) + R.val % 32; omega)⟩

/-- Where a group's rectangle puts its own index. -/
theorem rows_emb (g : Fin 12) (r : Fin 32) (l : Fin 128) :
    (rows g).emb (ix2 r l : S32x128.Idx) = (ix2 (row g r) l : S384x128.Idx) := by
  funext d
  apply Fin.ext
  fin_cases d
  · show 32 * g.val + 1 * r.val = 32 * g.val + r.val
    omega
  · show 0 + 1 * l.val = l.val
    omega

/-- A row of one group is not in another group's rectangle. -/
theorem not_mem_rows {g g' : Fin 12} (h : g ≠ g') (r : Fin 32) (l : Fin 128) :
    (ix2 (row g r) l : S384x128.Idx) ∉ (rows g').set := by
  intro hm
  obtain ⟨x, hx⟩ := (rows g').exists_idx_of_mem hm
  obtain ⟨r', l', rfl⟩ : ∃ r' l', x = (ix2 r' l' : S32x128.Idx) := ⟨x 0, x 1, eq_ix2 x⟩
  have hx' := (rows_emb g' r' l').symm.trans hx
  have h0 : row g' r' = row g r := congrFun hx' 0
  have h1 : 32 * g'.val + r'.val = 32 * g.val + r.val := congrArg Fin.val h0
  exact h (Fin.ext (by omega))

/-- A group's last store is read back. -/
theorem canon_store_self {e : EltTy} (g : Fin 12) (w : Vec Ideal S32x128 e) (L : List (View.Piece (Elt Ideal) S384x128 e))
    (r : Fin 32) (l : Fin 128) :
    View.canon ((⟨rows g, w⟩ : View.Piece (Elt Ideal) S384x128 e) :: L) (ix2 (row g r) l : S384x128.Idx) = w (ix2 r l) :=
  (congrArg _ (rows_emb g r l).symm).trans (View.canon_cons_emb (Val := Elt Ideal) (rows g) w L (ix2 r l : S32x128.Idx))

/-- Another group's store is not seen. -/
theorem canon_store_ne {e : EltTy} {g g' : Fin 12} (h : g ≠ g') (w : Vec Ideal S32x128 e)
    (L : List (View.Piece (Elt Ideal) S384x128 e)) (r : Fin 32) (l : Fin 128) :
    View.canon ((⟨rows g', w⟩ : View.Piece (Elt Ideal) S384x128 e) :: L) (ix2 (row g r) l : S384x128.Idx)
      = View.canon L (ix2 (row g r) l : S384x128.Idx) :=
  View.canon_cons_of_not_mem (Val := Elt Ideal) ⟨rows g', w⟩ L (not_mem_rows h r l)

/-- A store chain: each list is a group's store over the list before. What it holds at a row. -/
theorem canon_chain {e : EltTy} (B : Fin 12 → List (View.Piece (Elt Ideal) S384x128 e)) (pay : Fin 12 → Vec Ideal S32x128 e)
    (hB : ∀ g : Fin 11, B g.succ = ⟨rows g.castSucc, pay g.castSucc⟩ :: B g.castSucc) (g' : Fin 12) (r : Fin 32) (l : Fin 128) :
    ∀ (n : ℕ) (hn : n < 12), View.canon (B ⟨n, hn⟩) (ix2 (row g' r) l : S384x128.Idx)
      = if g'.val < n then pay g' (ix2 r l) else View.canon (B 0) (ix2 (row g' r) l : S384x128.Idx)
  | 0, hn => by simp
  | n + 1, hn => by
    have ih := canon_chain B pay hB g' r l n (by omega)
    have hs : B ⟨n + 1, hn⟩ = ⟨rows ⟨n, by omega⟩, pay ⟨n, by omega⟩⟩ :: B ⟨n, by omega⟩ := hB ⟨n, by omega⟩
    rw [hs]
    by_cases h : g'.val = n
    · have hg : (⟨n, by omega⟩ : Fin 12) = g' := Fin.ext h.symm
      rw [hg, canon_store_self, if_pos (by omega)]
    · rw [canon_store_ne (fun h' => h (congrArg Fin.val h')), ih]
      by_cases h' : g'.val < n
      · rw [if_pos h', if_pos (by omega)]
      · rw [if_neg h', if_neg (by omega)]

/-- What a store chain holds after the last group. -/
theorem canon_chain_last {e : EltTy} (B : Fin 12 → List (View.Piece (Elt Ideal) S384x128 e)) (pay : Fin 12 → Vec Ideal S32x128 e)
    (hB : ∀ g : Fin 11, B g.succ = ⟨rows g.castSucc, pay g.castSucc⟩ :: B g.castSucc) (g' : Fin 12) (r : Fin 32) (l : Fin 128) :
    View.canon (⟨rows 11, pay 11⟩ :: B 11) (ix2 (row g' r) l : S384x128.Idx) = pay g' (ix2 r l) := by
  by_cases h : g' = 11
  · subst h; exact canon_store_self 11 (pay 11) (B 11) r l
  · have h11 : g'.val < 11 := by have : g'.val ≠ 11 := fun h' => h (Fin.ext h'); omega
    exact (canon_store_ne h (pay 11) (B 11) r l).trans
      ((canon_chain B pay hB g' r l 11 (by decide)).trans (if_pos h11))

/-- What the twelve groups' stores hold. -/
theorem canon_pieces {e : EltTy} (pay : Fin 12 → Vec Ideal S32x128 e) (g : Fin 12) (r : Fin 32) (l : Fin 128) :
    View.canon (pieces (F := Ideal) pay) (ix2 (row g r) l : S384x128.Idx) = pay g (ix2 r l) :=
  (congrArg (fun L => View.canon L (ix2 (row g r) l : S384x128.Idx)) (show pieces (F := Ideal) pay
      = ⟨rows 11, pay 11⟩ :: (pieces (F := Ideal) pay).drop (12 - (11 : Fin 12).val) from rfl)).trans
    (canon_chain_last (fun n => (pieces (F := Ideal) pay).drop (12 - n.val)) pay (fun g => by fin_cases g <;> rfl) g r l)

/-- A group's load of a carried scratch buffer. -/
theorem readAt_rows {e : EltTy} (a : Memref sig .tc .vmem S384x128 e) (ha : a.IsWhole) (x : Vec Ideal S384x128 e)
    (g : Fin 12) (r : Fin 32) (l : Fin 128) :
    View.readAt (Elt Ideal) a.view (rows g).toLoadRect (ha.unread x) (ix2 r l : S32x128.Idx) = x (ix2 (row g r) l) := by
  rw [View.readAt_eq_ld, ha.read_unread]
  exact congrArg x (rows_emb g r l)

/-- A group's load of a scratch buffer stored to at the same grid point. -/
theorem readCov_rows {e : EltTy} (a : Memref sig .tc .vmem S384x128 e) (L : List (View.Piece (Elt Ideal) S384x128 e))
    (g : Fin 12) (r : Fin 32) (l : Fin 128) :
    a.view.readCov L (rows g).toLoadRect (ix2 r l : S32x128.Idx) = View.canon L (ix2 (row g r) l : S384x128.Idx) := by
  rw [View.readCov_eq_canon']
  exact congrArg (View.canon L) (rows_emb g r l)

variable (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg10 : Memref sig .tc .vmem S384x512 .f32)
  (x3 : Vec Ideal S384x7168 .fp8e4m3) (x4 : Vec Ideal S1x512 .f32) (x5 : Vec Ideal S512x7168 .fp8e4m3)

/-- Lane `l` of chunk `j` in a block of 512. -/
def col (j : Fin 4) (l : Fin 128) : Fin 512 := ⟨128 * j.val + l.val, by omega⟩

/-- A group's load of the product is the products of the codes. -/
theorem zload_apply (g : Fin 12) (j : Fin 4) (r : Fin 32) (l : Fin 128) :
    zload arg4 harg4 arg6 harg6 arg10 x3 x5 g j (ix2 r l)
      = ∑ k : Fin 7168, x3 (ix2 (row g r) k) * x5 (ix2 (col j l) k) := by
  have hemb : (zrect g j).emb (ix2 r l : S32x128.Idx) = (ix2 (row g r) (col j l) : S384x512.Idx) := by
    funext d
    apply Fin.ext
    fin_cases d
    · show 32 * g.val + 1 * r.val = 32 * g.val + r.val
      omega
    · show 128 * j.val + 1 * l.val = 128 * j.val + l.val
      omega
  unfold zload
  rw [View.readCov_eq_canon']
  show View.canon _ ((zrect g j).emb (ix2 r l : S32x128.Idx)) = _
  rw [hemb]
  unfold zpiece
  rw [View.canon_unit_zero (by funext a; fin_cases a <;> rfl)]
  rw [View.readAt_eq_ld, harg4.read_unread, View.readAt_eq_ld, harg6.read_unread,
    View.ld_unit_zero (by funext a; fin_cases a <;> rfl), View.ld_unit_zero (by funext a; fin_cases a <;> rfl)]
  unfold k0_pay63
  pointwise [dot_S384x7168_S512x7168_S384x512_1_1_0_0_n_n]

/-- The load of the weights' scales. -/
theorem wload_apply (j : Fin 4) (l : Fin 128) :
    wload arg5 harg5 x4 j (ix2 0 l) = x4 (ix2 0 (col j l)) := by
  unfold wload
  rw [View.readAt_eq_ld, harg5.read_unread]
  refine congrArg x4 ?_
  funext d
  apply Fin.ext
  fin_cases d
  · rfl
  · show 128 * j.val + 1 * l.val = 128 * j.val + l.val
    omega

/-- The lane that carries target `k`. -/
def lane (k : Fin 7) : Fin 128 := ⟨k.val, by omega⟩

/-- A lane's running maximum and moments: real, and the moments of the chunks before `N` about that maximum. -/
def Carry (N : ℕ) (u : ℕ → ℝ) (m s0 s1 s2 : EReal) : Prop :=
  ∃ M : ℝ, m = (M : EReal) ∧ s0 = (moment (Finset.range N) u M 0 : EReal)
    ∧ s1 = (moment (Finset.range N) u M 1 : EReal) ∧ s2 = (moment (Finset.range N) u M 2 : EReal)

variable (X C : Fin 384 → EReal) (T : Fin 384 → Fin 7 → ℕ) (U : Fin 384 → ℕ → Fin 128 → ℝ)

/-- The value of the logit (over `ln 2`) at the vocabulary entry that target `k` of row `R` names. -/
def named (R : Fin 384) (k : Fin 7) : ℝ := U R (T R k / 128) ⟨T R k % 128, Nat.mod_lt _ (by decide)⟩

/-- What the nine scratch buffers hold after the chunks before `N`. -/
structure Inv (N : ℕ) (xs c : Vec Ideal S384x128 .f32) (hi lo : Vec Ideal S384x128 .i32)
    (m s0 s1 s2 yt : Vec Ideal S384x128 .f32) : Prop where
  xs : ∀ R l, xs (ix2 R l) = X R
  c : ∀ R l, c (ix2 R l) = C R
  hi : ∀ R k, hi (ix2 R (lane k)) = BitVec.ofNat 32 (T R k / 128)
  lo : ∀ R k, lo (ix2 R (lane k)) = BitVec.ofNat 32 (T R k % 128)
  mom : ∀ R l, Carry N (fun n => U R n l) (m (ix2 R l)) (s0 (ix2 R l)) (s1 (ix2 R l)) (s2 (ix2 R l))
  yt : ∀ R k, T R k / 128 < N → yt (ix2 R (lane k)) = (named T U R k : EReal)

/-- What group `gi` loads from the scratch buffers after the chunks before `N`. -/
structure GIn (N : ℕ) (gi : Fin 12) (g : Grp Ideal) : Prop where
  hi : ∀ r k, g.hi (ix2 r (lane k)) = BitVec.ofNat 32 (T (row gi r) k / 128)
  lo : ∀ r k, g.lo (ix2 r (lane k)) = BitVec.ofNat 32 (T (row gi r) k % 128)
  mom : ∀ r l, Carry N (fun n => U (row gi r) n l) (g.m (ix2 r l)) (g.s0 (ix2 r l)) (g.s1 (ix2 r l)) (g.s2 (ix2 r l))
  yt : ∀ r k, T (row gi r) k / 128 < N → g.yt (ix2 r (lane k)) = (named T U (row gi r) k : EReal)
  y0 : ∀ r l, g.y0 (ix2 r l) = (U (row gi r) N l : EReal)
  y1 : ∀ r l, g.y1 (ix2 r l) = (U (row gi r) (N + 1) l : EReal)
  y2 : ∀ r l, g.y2 (ix2 r l) = (U (row gi r) (N + 2) l : EReal)
  y3 : ∀ r l, g.y3 (ix2 r l) = (U (row gi r) (N + 3) l : EReal)

variable {X C T U}

/-- The moments a group stores. -/
theorem GIn.carry {N : ℕ} {gi : Fin 12} {g : Grp Ideal} (h : GIn T U N gi g) (r : Fin 32) (l : Fin 128) :
    Carry (N + 4) (fun n => U (row gi r) n l) (g.storeM (ix2 r l)) (g.storeS0 (ix2 r l)) (g.storeS1 (ix2 r l))
      (g.storeS2 (ix2 r l)) := by
  obtain ⟨M, hm, h0, h1, h2⟩ := h.mom r l
  exact moments_step g r l (fun n => U (row gi r) n l) N M (h.y0 r l) (h.y1 r l) (h.y2 r l) (h.y3 r l) hm h0 h1 h2

/-- The target values a group stores. -/
theorem GIn.target {N : ℕ} {gi : Fin 12} {g : Grp Ideal} (h : GIn T U N gi g) (hN : N + 4 ≤ 384)
    (hT : ∀ R k, T R k < 49152) (n : BitVec 32) (hn : n = BitVec.ofNat 32 N) (r : Fin 32) (k : Fin 7) :
    T (row gi r) k / 128 < N + 4 → g.storeYt n (ix2 r (lane k)) = (named T U (row gi r) k : EReal) :=
  target_step g r (lane k) (U (row gi r)) N (T (row gi r) k / 128) ⟨T (row gi r) k % 128, Nat.mod_lt _ (by decide)⟩ hN
    (by have := hT (row gi r) k; omega) (h.y0 r) (h.y1 r) (h.y2 r) (h.y3 r) (h.hi r k) (h.lo r k) (h.yt r k) n hn

/-- The state after the stores of the twelve groups. -/
theorem Inv.of_groups {N : ℕ} {G : Fin 12 → Grp Ideal} (h : ∀ gi, GIn T U N gi (G gi)) (hN : N + 4 ≤ 384)
    (hT : ∀ R k, T R k < 49152) (n : BitVec 32) (hn : n = BitVec.ofNat 32 N)
    {xs c : Vec Ideal S384x128 .f32} {hi lo : Vec Ideal S384x128 .i32} {m s0 s1 s2 yt : Vec Ideal S384x128 .f32}
    (hxs : ∀ R l, xs (ix2 R l) = X R) (hc : ∀ R l, c (ix2 R l) = C R)
    (hhi : ∀ R k, hi (ix2 R (lane k)) = BitVec.ofNat 32 (T R k / 128))
    (hlo : ∀ R k, lo (ix2 R (lane k)) = BitVec.ofNat 32 (T R k % 128))
    (hm : ∀ g r l, m (ix2 (row g r) l) = (G g).storeM (ix2 r l))
    (h0 : ∀ g r l, s0 (ix2 (row g r) l) = (G g).storeS0 (ix2 r l))
    (h1 : ∀ g r l, s1 (ix2 (row g r) l) = (G g).storeS1 (ix2 r l))
    (h2 : ∀ g r l, s2 (ix2 (row g r) l) = (G g).storeS2 (ix2 r l))
    (hy : ∀ g r l, yt (ix2 (row g r) l) = (G g).storeYt n (ix2 r l)) :
    Inv X C T U (N + 4) xs c hi lo m s0 s1 s2 yt where
  xs := hxs
  c := hc
  hi := hhi
  lo := hlo
  mom R l := by
    obtain ⟨g, r, rfl⟩ := exists_row R
    rw [hm, h0, h1, h2]; exact (h g).carry r l
  yt R k ht := by
    obtain ⟨g, r, rfl⟩ := exists_row R
    rw [hy]; exact (h g).target hN hT n hn r k ht

variable (X C U)

/-- What makes the chunks of a grid point's blocks the chunks `N`, …, `N + 3` of the logits. -/
def Blocks (N : ℕ) : Prop := ∀ (R : Fin 384) (j : Fin 4) (l : Fin 128),
  Ideal.tanh ((∑ k : Fin 7168, x3 (ix2 R k) * x5 (ix2 (col j l) k)) * X R * x4 (ix2 0 (col j l))) * C R
    = (U R (N + j.val) l : EReal)

variable {X C U}

/-- A group's chunk of logits. -/
theorem Blocks.yv_eq {N : ℕ} (h : Blocks x3 x4 x5 X C U N) (gi : Fin 12) (j : Fin 4) (xs c : Vec Ideal S32x128 .f32)
    (hxs : ∀ r l, xs (ix2 r l) = X (row gi r)) (hc : ∀ r l, c (ix2 r l) = C (row gi r)) (r : Fin 32) (l : Fin 128) :
    yv (zload arg4 harg4 arg6 harg6 arg10 x3 x5 gi j) xs c (wload arg5 harg5 x4 j) (ix2 r l)
      = (U (row gi r) (N + j.val) l : EReal) := by
  rw [yv_apply, zload_apply, wload_apply, hxs, hc, ← h]

variable (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)

/-- At a grid point that carries the scratch buffers on, every group loads what they hold. -/
theorem Inv.carried {N : ℕ} {xs c : Vec Ideal S384x128 .f32} {hi lo : Vec Ideal S384x128 .i32}
    {m s0 s1 s2 yt : Vec Ideal S384x128 .f32} (h : Inv X C T U N xs c hi lo m s0 s1 s2 yt)
    (hb : Blocks x3 x4 x5 X C U N) (gi : Fin 12) :
    GIn T U N gi (carried arg4 harg4 arg5 harg5 arg6 harg6 arg10 arg11 harg11 arg12 harg12 arg13 harg13 arg14 harg14
      arg15 harg15 arg16 harg16 arg17 harg17 arg18 harg18 arg19 harg19 x3 x4 x5 xs c hi lo m s0 s1 s2 yt gi) := by
  have hxs (r l) := (readAt_rows arg11 harg11 xs gi r l).trans (h.xs (row gi r) l)
  have hc (r l) := (readAt_rows arg12 harg12 c gi r l).trans (h.c (row gi r) l)
  exact {
    hi := fun r k => (readAt_rows arg13 harg13 hi gi r (lane k)).trans (h.hi (row gi r) k)
    lo := fun r k => (readAt_rows arg14 harg14 lo gi r (lane k)).trans (h.lo (row gi r) k)
    mom := fun r l => by
      unfold Step.carried; dsimp only
      rw [readAt_rows, readAt_rows, readAt_rows, readAt_rows]; exact h.mom (row gi r) l
    yt := fun r k ht => (readAt_rows arg19 harg19 yt gi r (lane k)).trans (h.yt (row gi r) k ht)
    y0 := hb.yv_eq arg4 harg4 arg5 harg5 arg6 harg6 arg10 x3 x4 x5 gi 0 _ _ hxs hc
    y1 := hb.yv_eq arg4 harg4 arg5 harg5 arg6 harg6 arg10 x3 x4 x5 gi 1 _ _ hxs hc
    y2 := hb.yv_eq arg4 harg4 arg5 harg5 arg6 harg6 arg10 x3 x4 x5 gi 2 _ _ hxs hc
    y3 := hb.yv_eq arg4 harg4 arg5 harg5 arg6 harg6 arg10 x3 x4 x5 gi 3 _ _ hxs hc }

end Cert.KernelIdeal.Step
-- ==== Proof.StepA.lean ====
module

public import proofs.«01_k».proof.Proof.KStep

@[expose] public section

set_option maxRecDepth 16384
set_option maxHeartbeats 4000000

noncomputable section

/-! # The stores of case A: the first grid point -/

namespace Cert.KernelIdeal.Step

open Idealize.ShloMosaic Idealize.ShloMosaic.TcCoe Idealize.ShloMosaic.Tactic
open Cert.KernelIdeal Cert.KernelIdeal.Gen

variable {F : FTy → Type} [FloatOps F] [Named F]

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec F S3x128 .f32) (x1 : Vec F S3x128 .f32) (x2 : Vec F S384x7 .i32) (x3 : Vec F S384x7168 .fp8e4m3) (x4 : Vec F S1x512 .f32) (x5 : Vec F S512x7168 .fp8e4m3)
variable (xs1 : Vec F S384x128 .f32) (xs2 : Vec F S384x128 .f32) (xs3 : Vec F S384x128 .i32) (xs4 : Vec F S384x128 .i32) (xs5 : Vec F S384x128 .f32) (xs6 : Vec F S384x128 .f32) (xs7 : Vec F S384x128 .f32) (xs8 : Vec F S384x128 .f32) (xs9 : Vec F S384x128 .f32)

/-- Group `g` of the first grid point stores its running maximum over what was there before. -/
theorem beforeM_succ (c : Dev nD) : ∀ g : Fin 11, beforeM (F := F) arg1 harg1 arg2 harg2 arg4 harg4 arg5 harg5 arg6 harg6 arg10 arg11 arg12 arg15 x0 x1 x3 x4 x5 c g.succ =
    ⟨rows g.castSucc, (fresh i arg1 harg1 arg2 harg2 arg3 harg3 arg4 harg4 arg5 harg5 arg6 harg6 arg10 arg11 arg12 arg13 arg14 arg15 arg16 arg17 arg18 arg19 x0 x1 x2 x3 x4 x5 c g.castSucc).storeM ⟩ :: beforeM arg1 harg1 arg2 harg2 arg4 harg4 arg5 harg5 arg6 harg6 arg10 arg11 arg12 arg15 x0 x1 x3 x4 x5 c g.castSucc := by
  intro g
  unfold Grp.storeM Grp.mx Grp.y0 Grp.y1 Grp.y2 Grp.y3 fresh; dsimp only
  fin_cases g <;> exact congr (congrArg List.cons (congrArg (Sigma.mk _) rfl)) rfl

/-- The first grid point leaves in the running maximum the last group's store over the earlier ones. -/
theorem runA_5 (c : Dev nD) (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.1 =
      ⟨rows 11, (fresh i arg1 harg1 arg2 harg2 arg3 harg3 arg4 harg4 arg5 harg5 arg6 harg6 arg10 arg11 arg12 arg13 arg14 arg15 arg16 arg17 arg18 arg19 x0 x1 x2 x3 x4 x5 c 11).storeM ⟩ :: beforeM arg1 harg1 arg2 harg2 arg4 harg4 arg5 harg5 arg6 harg6 arg10 arg11 arg12 arg15 x0 x1 x3 x4 x5 c 11 := by
  unfold kernelRun0_A Grp.storeM Grp.mx Grp.y0 Grp.y1 Grp.y2 Grp.y3 fresh; dsimp only
  refine congr (congrArg List.cons (congrArg (Sigma.mk _) ?_)) ?_
  · rfl
  rfl

/-- Group `g` of the first grid point stores its zeroth moment over what was there before. -/
theorem beforeS0_succ (c : Dev nD) : ∀ g : Fin 11, beforeS0 (F := F) arg1 harg1 arg2 harg2 arg4 harg4 arg5 harg5 arg6 harg6 arg10 arg11 arg12 arg15 arg16 x0 x1 x3 x4 x5 c g.succ =
    ⟨rows g.castSucc, (fresh i arg1 harg1 arg2 harg2 arg3 harg3 arg4 harg4 arg5 harg5 arg6 harg6 arg10 arg11 arg12 arg13 arg14 arg15 arg16 arg17 arg18 arg19 x0 x1 x2 x3 x4 x5 c g.castSucc).storeS0 ⟩ :: beforeS0 arg1 harg1 arg2 harg2 arg4 harg4 arg5 harg5 arg6 harg6 arg10 arg11 arg12 arg15 arg16 x0 x1 x3 x4 x5 c g.castSucc := by
  intro g
  unfold Grp.storeS0 Grp.e Grp.a Grp.dm Grp.mx Grp.y0 Grp.y1 Grp.y2 Grp.y3 fresh; dsimp only
  fin_cases g <;> exact congr (congrArg List.cons (congrArg (Sigma.mk _) rfl)) rfl

/-- The first grid point leaves in the zeroth moment the last group's store over the earlier ones. -/
theorem runA_6 (c : Dev nD) (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.1 =
      ⟨rows 11, (fresh i arg1 harg1 arg2 harg2 arg3 harg3 arg4 harg4 arg5 harg5 arg6 harg6 arg10 arg11 arg12 arg13 arg14 arg15 arg16 arg17 arg18 arg19 x0 x1 x2 x3 x4 x5 c 11).storeS0 ⟩ :: beforeS0 arg1 harg1 arg2 harg2 arg4 harg4 arg5 harg5 arg6 harg6 arg10 arg11 arg12 arg15 arg16 x0 x1 x3 x4 x5 c 11 := by
  unfold kernelRun0_A Grp.storeS0 Grp.e Grp.a Grp.dm Grp.mx Grp.y0 Grp.y1 Grp.y2 Grp.y3 fresh; dsimp only
  refine congr (congrArg List.cons (congrArg (Sigma.mk _) ?_)) ?_
  · rfl
  rfl

/-- Group `g` of the first grid point stores its first moment over what was there before. -/
theorem beforeS1_succ (c : Dev nD) : ∀ g : Fin 11, beforeS1 (F := F) arg1 harg1 arg2 harg2 arg4 harg4 arg5 harg5 arg6 harg6 arg10 arg11 arg12 arg15 arg16 arg17 x0 x1 x3 x4 x5 c g.succ =
    ⟨rows g.castSucc, (fresh i arg1 harg1 arg2 harg2 arg3 harg3 arg4 harg4 arg5 harg5 arg6 harg6 arg10 arg11 arg12 arg13 arg14 arg15 arg16 arg17 arg18 arg19 x0 x1 x2 x3 x4 x5 c g.castSucc).storeS1 ⟩ :: beforeS1 arg1 harg1 arg2 harg2 arg4 harg4 arg5 harg5 arg6 harg6 arg10 arg11 arg12 arg15 arg16 arg17 x0 x1 x3 x4 x5 c g.castSucc := by
  intro g
  unfold Grp.storeS1 Grp.ed Grp.e Grp.a Grp.p Grp.dm Grp.mx Grp.y0 Grp.y1 Grp.y2 Grp.y3 fresh; dsimp only
  fin_cases g <;> exact congr (congrArg List.cons (congrArg (Sigma.mk _) rfl)) rfl

/-- The first grid point leaves in the first moment the last group's store over the earlier ones. -/
theorem runA_7 (c : Dev nD) (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.2.1 =
      ⟨rows 11, (fresh i arg1 harg1 arg2 harg2 arg3 harg3 arg4 harg4 arg5 harg5 arg6 harg6 arg10 arg11 arg12 arg13 arg14 arg15 arg16 arg17 arg18 arg19 x0 x1 x2 x3 x4 x5 c 11).storeS1 ⟩ :: beforeS1 arg1 harg1 arg2 harg2 arg4 harg4 arg5 harg5 arg6 harg6 arg10 arg11 arg12 arg15 arg16 arg17 x0 x1 x3 x4 x5 c 11 := by
  unfold kernelRun0_A Grp.storeS1 Grp.ed Grp.e Grp.a Grp.p Grp.dm Grp.mx Grp.y0 Grp.y1 Grp.y2 Grp.y3 fresh; dsimp only
  refine congr (congrArg List.cons (congrArg (Sigma.mk _) ?_)) ?_
  · rfl
  rfl

/-- Group `g` of the first grid point stores its second moment over what was there before. -/
theorem beforeS2_succ (c : Dev nD) : ∀ g : Fin 11, beforeS2 (F := F) arg1 harg1 arg2 harg2 arg4 harg4 arg5 harg5 arg6 harg6 arg10 arg11 arg12 arg15 arg16 arg17 arg18 x0 x1 x3 x4 x5 c g.succ =
    ⟨rows g.castSucc, (fresh i arg1 harg1 arg2 harg2 arg3 harg3 arg4 harg4 arg5 harg5 arg6 harg6 arg10 arg11 arg12 arg13 arg14 arg15 arg16 arg17 arg18 arg19 x0 x1 x2 x3 x4 x5 c g.castSucc).storeS2 ⟩ :: beforeS2 arg1 harg1 arg2 harg2 arg4 harg4 arg5 harg5 arg6 harg6 arg10 arg11 arg12 arg15 arg16 arg17 arg18 x0 x1 x3 x4 x5 c g.castSucc := by
  intro g
  unfold Grp.storeS2 Grp.edd Grp.ed Grp.e Grp.a Grp.p Grp.dm Grp.mx Grp.y0 Grp.y1 Grp.y2 Grp.y3 fresh; dsimp only
  fin_cases g <;> exact congr (congrArg List.cons (congrArg (Sigma.mk _) rfl)) rfl

/-- The first grid point leaves in the second moment the last group's store over the earlier ones. -/
theorem runA_8 (c : Dev nD) (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.2.2.1 =
      ⟨rows 11, (fresh i arg1 harg1 arg2 harg2 arg3 harg3 arg4 harg4 arg5 harg5 arg6 harg6 arg10 arg11 arg12 arg13 arg14 arg15 arg16 arg17 arg18 arg19 x0 x1 x2 x3 x4 x5 c 11).storeS2 ⟩ :: beforeS2 arg1 harg1 arg2 harg2 arg4 harg4 arg5 harg5 arg6 harg6 arg10 arg11 arg12 arg15 arg16 arg17 arg18 x0 x1 x3 x4 x5 c 11 := by
  unfold kernelRun0_A Grp.storeS2 Grp.edd Grp.ed Grp.e Grp.a Grp.p Grp.dm Grp.mx Grp.y0 Grp.y1 Grp.y2 Grp.y3 fresh; dsimp only
  refine congr (congrArg List.cons (congrArg (Sigma.mk _) ?_)) ?_
  · rfl
  rfl

/-- Group `g` of the first grid point stores its target value over what was there before. -/
theorem beforeYt_succ (c : Dev nD) : ∀ g : Fin 11, beforeYt (F := F) i arg1 harg1 arg2 harg2 arg3 harg3 arg4 harg4 arg5 harg5 arg6 harg6 arg10 arg11 arg12 arg13 arg14 arg19 x0 x1 x2 x3 x4 x5 c g.succ =
    ⟨rows g.castSucc, (fresh i arg1 harg1 arg2 harg2 arg3 harg3 arg4 harg4 arg5 harg5 arg6 harg6 arg10 arg11 arg12 arg13 arg14 arg15 arg16 arg17 arg18 arg19 x0 x1 x2 x3 x4 x5 c g.castSucc).storeYt (chunk0 i)⟩ :: beforeYt i arg1 harg1 arg2 harg2 arg3 harg3 arg4 harg4 arg5 harg5 arg6 harg6 arg10 arg11 arg12 arg13 arg14 arg19 x0 x1 x2 x3 x4 x5 c g.castSucc := by
  intro g
  unfold Grp.storeYt pick gidx Grp.y0 Grp.y1 Grp.y2 Grp.y3 fresh; dsimp only
  fin_cases g <;> exact congr (congrArg List.cons (congrArg (Sigma.mk _) rfl)) rfl

/-- The first grid point leaves in the target value the last group's store over the earlier ones. -/
theorem runA_9 (c : Dev nD) (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5).2.2.2.2.2.2.2.2.2.2.2.1 =
      ⟨rows 11, (fresh i arg1 harg1 arg2 harg2 arg3 harg3 arg4 harg4 arg5 harg5 arg6 harg6 arg10 arg11 arg12 arg13 arg14 arg15 arg16 arg17 arg18 arg19 x0 x1 x2 x3 x4 x5 c 11).storeYt (chunk0 i)⟩ :: beforeYt i arg1 harg1 arg2 harg2 arg3 harg3 arg4 harg4 arg5 harg5 arg6 harg6 arg10 arg11 arg12 arg13 arg14 arg19 x0 x1 x2 x3 x4 x5 c 11 := by
  unfold kernelRun0_A Grp.storeYt pick gidx Grp.y0 Grp.y1 Grp.y2 Grp.y3 fresh; dsimp only
  refine congr (congrArg List.cons (congrArg (Sigma.mk _) ?_)) ?_
  · rfl
  rfl

end Cert.KernelIdeal.Step
-- ==== Proof.StepB.lean ====
module

public import proofs.«01_k».proof.Proof.KStep

@[expose] public section

set_option maxRecDepth 16384
set_option maxHeartbeats 4000000

noncomputable section

/-! # The stores of case B: a grid point in the middle -/

namespace Cert.KernelIdeal.Step

open Idealize.ShloMosaic Idealize.ShloMosaic.TcCoe Idealize.ShloMosaic.Tactic
open Cert.KernelIdeal Cert.KernelIdeal.Gen

variable {F : FTy → Type} [FloatOps F] [Named F]

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec F S3x128 .f32) (x1 : Vec F S3x128 .f32) (x2 : Vec F S384x7 .i32) (x3 : Vec F S384x7168 .fp8e4m3) (x4 : Vec F S1x512 .f32) (x5 : Vec F S512x7168 .fp8e4m3)
variable (xs1 : Vec F S384x128 .f32) (xs2 : Vec F S384x128 .f32) (xs3 : Vec F S384x128 .i32) (xs4 : Vec F S384x128 .i32) (xs5 : Vec F S384x128 .f32) (xs6 : Vec F S384x128 .f32) (xs7 : Vec F S384x128 .f32) (xs8 : Vec F S384x128 .f32) (xs9 : Vec F S384x128 .f32)

/-- Case B leaves in the running maximum the twelve groups' stores. -/
theorem runB_5 (c : Dev nD) (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeM ) := by
  unfold kernelRun0_B pieces Grp.storeM Grp.mx Grp.y0 Grp.y1 Grp.y2 Grp.y3 carried; dsimp only
  iterate 12
    refine congr (congrArg List.cons (congrArg (Sigma.mk _) ?_)) ?_
    · rfl
  rfl

/-- Case B leaves in the zeroth moment the twelve groups' stores. -/
theorem runB_6 (c : Dev nD) (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS0 ) := by
  unfold kernelRun0_B pieces Grp.storeS0 Grp.e Grp.a Grp.dm Grp.mx Grp.y0 Grp.y1 Grp.y2 Grp.y3 carried; dsimp only
  iterate 12
    refine congr (congrArg List.cons (congrArg (Sigma.mk _) ?_)) ?_
    · rfl
  rfl

/-- Case B leaves in the first moment the twelve groups' stores. -/
theorem runB_7 (c : Dev nD) (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS1 ) := by
  unfold kernelRun0_B pieces Grp.storeS1 Grp.ed Grp.e Grp.a Grp.p Grp.dm Grp.mx Grp.y0 Grp.y1 Grp.y2 Grp.y3 carried; dsimp only
  iterate 12
    refine congr (congrArg List.cons (congrArg (Sigma.mk _) ?_)) ?_
    · rfl
  rfl

/-- Case B leaves in the second moment the twelve groups' stores. -/
theorem runB_8 (c : Dev nD) (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS2 ) := by
  unfold kernelRun0_B pieces Grp.storeS2 Grp.edd Grp.ed Grp.e Grp.a Grp.p Grp.dm Grp.mx Grp.y0 Grp.y1 Grp.y2 Grp.y3 carried; dsimp only
  iterate 12
    refine congr (congrArg List.cons (congrArg (Sigma.mk _) ?_)) ?_
    · rfl
  rfl

/-- Case B leaves in the target value the twelve groups' stores. -/
theorem runB_9 (c : Dev nD) (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeYt (chunk0 i) ) := by
  unfold kernelRun0_B pieces Grp.storeYt pick gidx Grp.y0 Grp.y1 Grp.y2 Grp.y3 carried; dsimp only
  iterate 12
    refine congr (congrArg List.cons (congrArg (Sigma.mk _) ?_)) ?_
    · rfl
  rfl

end Cert.KernelIdeal.Step
-- ==== Proof.StepC.lean ====
module

public import proofs.«01_k».proof.Proof.KStep

@[expose] public section

set_option maxRecDepth 16384
set_option maxHeartbeats 4000000

noncomputable section

/-! # The stores of case C: the last grid point -/

namespace Cert.KernelIdeal.Step

open Idealize.ShloMosaic Idealize.ShloMosaic.TcCoe Idealize.ShloMosaic.Tactic
open Cert.KernelIdeal Cert.KernelIdeal.Gen

variable {F : FTy → Type} [FloatOps F] [Named F]

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec F S3x128 .f32) (x1 : Vec F S3x128 .f32) (x2 : Vec F S384x7 .i32) (x3 : Vec F S384x7168 .fp8e4m3) (x4 : Vec F S1x512 .f32) (x5 : Vec F S512x7168 .fp8e4m3)
variable (xs1 : Vec F S384x128 .f32) (xs2 : Vec F S384x128 .f32) (xs3 : Vec F S384x128 .i32) (xs4 : Vec F S384x128 .i32) (xs5 : Vec F S384x128 .f32) (xs6 : Vec F S384x128 .f32) (xs7 : Vec F S384x128 .f32) (xs8 : Vec F S384x128 .f32) (xs9 : Vec F S384x128 .f32)

/-- Case C leaves in the running maximum the twelve groups' stores. -/
theorem runC_5 (c : Dev nD) (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeM ) := by
  unfold kernelRun0_C pieces Grp.storeM Grp.mx Grp.y0 Grp.y1 Grp.y2 Grp.y3 carried; dsimp only
  unfold kernelRun0_C.sl.HS5_12
  iterate 12
    refine congr (congrArg List.cons (congrArg (Sigma.mk _) ?_)) ?_
    · rfl
  rfl

/-- Case C leaves in the zeroth moment the twelve groups' stores. -/
theorem runC_6 (c : Dev nD) (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS0 ) := by
  unfold kernelRun0_C pieces Grp.storeS0 Grp.e Grp.a Grp.dm Grp.mx Grp.y0 Grp.y1 Grp.y2 Grp.y3 carried; dsimp only
  unfold kernelRun0_C.sl.HS6_12
  iterate 12
    refine congr (congrArg List.cons (congrArg (Sigma.mk _) ?_)) ?_
    · rfl
  rfl

/-- Case C leaves in the first moment the twelve groups' stores. -/
theorem runC_7 (c : Dev nD) (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS1 ) := by
  unfold kernelRun0_C pieces Grp.storeS1 Grp.ed Grp.e Grp.a Grp.p Grp.dm Grp.mx Grp.y0 Grp.y1 Grp.y2 Grp.y3 carried; dsimp only
  unfold kernelRun0_C.sl.HS7_12
  iterate 12
    refine congr (congrArg List.cons (congrArg (Sigma.mk _) ?_)) ?_
    · rfl
  rfl

/-- Case C leaves in the second moment the twelve groups' stores. -/
theorem runC_8 (c : Dev nD) (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeS2 ) := by
  unfold kernelRun0_C pieces Grp.storeS2 Grp.edd Grp.ed Grp.e Grp.a Grp.p Grp.dm Grp.mx Grp.y0 Grp.y1 Grp.y2 Grp.y3 carried; dsimp only
  unfold kernelRun0_C.sl.HS8_12
  iterate 12
    refine congr (congrArg List.cons (congrArg (Sigma.mk _) ?_)) ?_
    · rfl
  rfl

/-- Case C leaves in the target value the twelve groups' stores. -/
theorem runC_9 (c : Dev nD) (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.2.2.2.2.2.2.2.2.2.1 =
      pieces (fun g => (carried arg4 harg4 arg5 harg5 arg6 harg6 arg10 arg11 harg11 arg12 harg12 arg13 harg13 arg14 harg14 arg15 harg15 arg16 harg16 arg17 harg17 arg18 harg18 arg19 harg19 x3 x4 x5 xs1 xs2 xs3 xs4 xs5 xs6 xs7 xs8 xs9 g).storeYt (chunk0 i) ) := by
  unfold kernelRun0_C pieces Grp.storeYt pick gidx Grp.y0 Grp.y1 Grp.y2 Grp.y3 carried; dsimp only
  unfold kernelRun0_C.sl.HS9_12
  iterate 12
    refine congr (congrArg List.cons (congrArg (Sigma.mk _) ?_)) ?_
    · rfl
  rfl

end Cert.KernelIdeal.Step
-- ==== Proof.StepValue.lean ====
module

public import proofs.«01_k».proof.Proof.State
public import proofs.«01_k».proof.Proof.StepA
public import proofs.«01_k».proof.Proof.StepB
public import proofs.«01_k».proof.Proof.StepC

@[expose] public section

set_option maxRecDepth 16384
set_option maxHeartbeats 1000000

noncomputable section

/-! # The state after one grid point -/

namespace Cert.KernelIdeal.Step

open Idealize.ShloMosaic Idealize.ShloMosaic.TcCoe Idealize.ShloMosaic.Tactic
open Cert.KernelIdeal Cert.KernelIdeal.Gen Cert.SoftmaxMath

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec Ideal S3x128 .f32) (x1 : Vec Ideal S3x128 .f32) (x2 : Vec Ideal S384x7 .i32) (x3 : Vec Ideal S384x7168 .fp8e4m3) (x4 : Vec Ideal S1x512 .f32) (x5 : Vec Ideal S512x7168 .fp8e4m3)
variable (xs1 : Vec Ideal S384x128 .f32) (xs2 : Vec Ideal S384x128 .f32) (xs3 : Vec Ideal S384x128 .i32) (xs4 : Vec Ideal S384x128 .i32) (xs5 : Vec Ideal S384x128 .f32) (xs6 : Vec Ideal S384x128 .f32) (xs7 : Vec Ideal S384x128 .f32) (xs8 : Vec Ideal S384x128 .f32) (xs9 : Vec Ideal S384x128 .f32)
variable {X C : Fin 384 → EReal} {T : Fin 384 → Fin 7 → ℕ} {U : Fin 384 → ℕ → Fin 128 → ℝ}

/-- The first chunk's number is four times the grid point's. -/
theorem chunk0_eq (i : grid0.Coords) : chunk0 i = BitVec.ofNat 32 (4 * (i 0).val) := by
  unfold chunk0 Scalar.muli IntOp.muli
  rw [← BitVec.ofNat_mul, Nat.mul_comm]

/-- The state after a grid point in the middle. -/
theorem Inv.stepB (c : Dev nD) (hc0 : ¬cond0_0 i) (hc1 : ¬cond0_1 i) (h : Inv X C T U (4 * (i 0).val) xs1 xs2 xs3 xs4 xs5 xs6 xs7 xs8 xs9)
    (hb : Blocks x3 x4 x5 X C U (4 * (i 0).val)) (hN : (i 0).val < 96) (hT : ∀ R k, T R k < 49152) :
    Inv X C T U (4 * (i 0).val + 4) xs1 xs2 xs3 xs4
      (sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) := by
  refine Inv.of_groups (fun gi => h.carried arg4 harg4 arg5 harg5 arg6 harg6 arg10 x3 x4 x5 arg11 harg11 arg12 harg12 arg13 harg13 arg14 harg14 arg15 harg15 arg16 harg16 arg17 harg17 arg18 harg18 arg19 harg19 hb gi) (by omega) hT (chunk0 i) (chunk0_eq i)
    h.xs h.c h.hi h.lo ?_ ?_ ?_ ?_ ?_
  · intro g r l
    unfold sout0_B_5
    rw [View.read_writes_junk_eq_canon, runB_5]; exact canon_pieces _ g r l
  · intro g r l
    unfold sout0_B_6
    rw [View.read_writes_junk_eq_canon, runB_6]; exact canon_pieces _ g r l
  · intro g r l
    unfold sout0_B_7
    rw [View.read_writes_junk_eq_canon, runB_7]; exact canon_pieces _ g r l
  · intro g r l
    unfold sout0_B_8
    rw [View.read_writes_junk_eq_canon, runB_8]; exact canon_pieces _ g r l
  · intro g r l
    unfold sout0_B_9
    rw [View.read_writes_junk_eq_canon, runB_9]; exact canon_pieces _ g r l

/-- The state after the last grid point. -/
theorem Inv.stepC (c : Dev nD) (hc0 : ¬cond0_0 i) (hc1 : cond0_1 i) (h : Inv X C T U (4 * (i 0).val) xs1 xs2 xs3 xs4 xs5 xs6 xs7 xs8 xs9)
    (hb : Blocks x3 x4 x5 X C U (4 * (i 0).val)) (hN : (i 0).val < 96) (hT : ∀ R k, T R k < 49152) :
    Inv X C T U (4 * (i 0).val + 4) xs1 xs2 xs3 xs4
      (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) := by
  refine Inv.of_groups (fun gi => h.carried arg4 harg4 arg5 harg5 arg6 harg6 arg10 x3 x4 x5 arg11 harg11 arg12 harg12 arg13 harg13 arg14 harg14 arg15 harg15 arg16 harg16 arg17 harg17 arg18 harg18 arg19 harg19 hb gi) (by omega) hT (chunk0 i) (chunk0_eq i)
    h.xs h.c h.hi h.lo ?_ ?_ ?_ ?_ ?_
  · intro g r l
    unfold sout0_C_5
    rw [View.read_writes_junk_eq_canon, runC_5]; exact canon_pieces _ g r l
  · intro g r l
    unfold sout0_C_6
    rw [View.read_writes_junk_eq_canon, runC_6]; exact canon_pieces _ g r l
  · intro g r l
    unfold sout0_C_7
    rw [View.read_writes_junk_eq_canon, runC_7]; exact canon_pieces _ g r l
  · intro g r l
    unfold sout0_C_8
    rw [View.read_writes_junk_eq_canon, runC_8]; exact canon_pieces _ g r l
  · intro g r l
    unfold sout0_C_9
    rw [View.read_writes_junk_eq_canon, runC_9]; exact canon_pieces _ g r l

end Cert.KernelIdeal.Step
-- ==== Proof.Prologue.lean ====
module

public import proofs.«01_k».proof.Proof.StepValue
public import Idealize.ShloMosaic.PureOps.IdealRules
public import Idealize.ShloMosaic.PureOps.Ideal
public import Idealize.ShloMosaic.Lib.Pointwise

@[expose] public section

set_option maxRecDepth 16384

noncomputable section

/-! # The state that the first grid point starts from -/

namespace Cert.KernelIdeal.Step

open Idealize.ShloMosaic Idealize.ShloMosaic.TcCoe Idealize.ShloMosaic.Tactic
open Cert.KernelIdeal Cert.KernelIdeal.Gen Cert.SoftmaxMath

/-- The bits the running maximum starts from, as a real. -/
theorem init_bits : Ideal.ofBits .f32 0xF149F2CA#32 = ((-(13234890 * 2 ^ 76) : ℝ) : EReal) := by
  simp [Ideal.ofBits, Ideal.ieee, -EReal.coe_mul]

/-- The bits of zero. -/
theorem zero_bits : Ideal.ofBits .f32 0x00000000#32 = 0 := by
  simp [Ideal.ofBits, Ideal.ieee, -EReal.coe_mul]

/-- The constant `1/30` of the kernel. -/
theorem inv_softcap : Named.named (F := Ideal) κ "inv_softcap" (φ := .f32) 0x3D088889#32 = ((1 / 30 : ℝ) : EReal) :=
  IdealRules.named_const.ideal_named_scalar _ _ _ _ rfl
/-- The constant `30 / ln 2` of the kernel. -/
theorem softcap_over_ln2 : Named.named (F := Ideal) κ "softcap_over_ln2" (φ := .f32) 0x422D1F97#32
    = ((30 * (Real.log 2)⁻¹ : ℝ) : EReal) :=
  IdealRules.named_const.ideal_named_scalar _ _ _ _ rfl

/-- Position `s` of batch `b`, as a row. -/
def brow (b : Fin 3) (s : Fin 128) : Fin 384 := ⟨128 * b.val + s.val, by omega⟩

/-- Every row is a position of some batch. -/
theorem exists_brow (R : Fin 384) : ∃ b s, R = brow b s :=
  ⟨⟨R.val / 128, by omega⟩, ⟨R.val % 128, by omega⟩, Fin.ext (by show R.val = 128 * (R.val / 128) + R.val % 128; omega)⟩

theorem inb_brect (n : ℕ) (b : Fin 3) :
    ∀ d, (![128 * b.val, 0] : Fin 2 → ℕ) d + (![128, n] : Fin 2 → ℕ) d ≤ (⟨2, ![384, n]⟩ : Shape).size d := by
  intro d; have := b.isLt
  fin_cases d
  · show 128 * b.val + 128 ≤ 384; omega
  · show 0 + n ≤ n; omega

/-- The rows of batch `b` in a buffer of `n` columns. -/
def brect (n : ℕ) (b : Fin 3) : Rect (⟨2, ![384, n]⟩ : Shape) := Rect.unit ![128 * b.val, 0] ![128, n] (inb_brect n b)

/-- Where a batch's rectangle puts its own index. -/
theorem brect_emb (n : ℕ) (b : Fin 3) (s : Fin 128) (l : Fin n) :
    (brect n b).emb (ix2 s l : (⟨2, ![128, n]⟩ : Shape).Idx) = (ix2 (brow b s) l : (⟨2, ![384, n]⟩ : Shape).Idx) := by
  funext d
  apply Fin.ext
  fin_cases d
  · show 128 * b.val + 1 * s.val = 128 * b.val + s.val
    omega
  · show 0 + 1 * l.val = l.val
    omega

/-- What three batches' stores hold. -/
theorem canon_batches {e : EltTy} (n : ℕ) (p : Fin 3 → Vec Ideal (⟨2, ![128, n]⟩ : Shape) e) (b : Fin 3) (s : Fin 128) (l : Fin n) :
    View.canon ([⟨brect n 2, p 2⟩, ⟨brect n 1, p 1⟩, ⟨brect n 0, p 0⟩] : List (View.Piece (Elt Ideal) (⟨2, ![384, n]⟩ : Shape) e))
      (ix2 (brow b s) l) = p b (ix2 s l) := by
  have hmem (b' : Fin 3) (h : b ≠ b') : (ix2 (brow b s) l : (⟨2, ![384, n]⟩ : Shape).Idx) ∉ (brect n b').set := by
    intro hm
    obtain ⟨x, hx⟩ := (brect n b').exists_idx_of_mem hm
    obtain ⟨s', l', rfl⟩ : ∃ s' l', x = (ix2 s' l' : (⟨2, ![128, n]⟩ : Shape).Idx) := ⟨x 0, x 1, eq_ix2 x⟩
    have h0 : brow b' s' = brow b s := congrFun ((brect_emb n b' s' l').symm.trans hx) 0
    have h1 : 128 * b'.val + s'.val = 128 * b.val + s.val := congrArg Fin.val h0
    exact h (Fin.ext (by omega))
  have hself (b' : Fin 3) (h : b = b') (L : List (View.Piece (Elt Ideal) (⟨2, ![384, n]⟩ : Shape) e)) :
      View.canon ((⟨brect n b', p b'⟩ : View.Piece (Elt Ideal) (⟨2, ![384, n]⟩ : Shape) e) :: L) (ix2 (brow b s) l) = p b (ix2 s l) := by
    subst h
    exact (congrArg _ (brect_emb n b s l).symm).trans (View.canon_cons_emb (Val := Elt Ideal) (brect n b) (p b) L _)
  have hne (b' : Fin 3) (h : b ≠ b') (L : List (View.Piece (Elt Ideal) (⟨2, ![384, n]⟩ : Shape) e)) :
      View.canon ((⟨brect n b', p b'⟩ : View.Piece (Elt Ideal) (⟨2, ![384, n]⟩ : Shape) e) :: L) (ix2 (brow b s) l) =
        View.canon L (ix2 (brow b s) l) := View.canon_cons_of_not_mem (Val := Elt Ideal) ⟨brect n b', p b'⟩ L (hmem b' h)
  by_cases h2 : b = 2
  · exact hself 2 h2 _
  refine (hne 2 h2 _).trans ?_
  by_cases h1 : b = 1
  · exact hself 1 h1 _
  refine (hne 1 h1 _).trans (hself 0 ?_ _)
  omega

theorem inb_brow (b : Fin 3) : ∀ d, (![b.val, 0] : Fin 2 → ℕ) d + S1x128.size d ≤ S3x128.size d := by
  intro d; have := b.isLt
  fin_cases d
  · show b.val + 1 ≤ 3; omega
  · show 0 + 128 ≤ 128; omega

/-- Batch `b`'s row of a 3 by 128 array. -/
def one (b : Fin 3) : Rect S3x128 := Rect.unit ![b.val, 0] S1x128.size (inb_brow b)

/-- Where that row puts its own index. -/
theorem one_emb (b : Fin 3) (s : Fin 128) : (one b).emb (ix2 0 s : S1x128.Idx) = (ix2 b s : S3x128.Idx) := by
  funext d
  apply Fin.ext
  fin_cases d
  · show b.val + 1 * 0 = b.val
    omega
  · show 0 + 1 * s.val = s.val
    omega

/-- A load of batch `b`'s row. -/
theorem readAt_one (a : Memref sig .tc .vmem S3x128 .f32) (ha : a.IsWhole) (x : Vec Ideal S3x128 .f32) (b : Fin 3) (s : Fin 128) :
    View.readAt (Elt Ideal) a.view (one b).toLoadRect (ha.unread x) (ix2 0 s : S1x128.Idx) = x (ix2 b s) := by
  rw [View.readAt_eq_ld, ha.read_unread]
  exact congrArg x (one_emb b s)

/-- A batch's activations' scales over 30, spread over the lanes. -/
theorem pay_xs (x : Vec Ideal S1x128 .f32) (s l : Fin 128) : k0_pay9 x (ix2 s l) = x (ix2 0 s) * ((1 / 30 : ℝ) : EReal) := by
  unfold k0_pay9; pointwise; rw [inv_softcap]

/-- A batch's factor of the capped values, spread over the lanes. -/
theorem pay_c (x : Vec Ideal S1x128 .f32) (s l : Fin 128) :
    k0_pay10 x (ix2 s l) = Ideal.div ((30 * (Real.log 2)⁻¹ : ℝ) : EReal) (x (ix2 0 s)) := by
  unfold k0_pay10; pointwise; rw [softcap_over_ln2]

variable (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (x0 : Vec Ideal S3x128 .f32) (x1 : Vec Ideal S3x128 .f32) (x2 : Vec Ideal S384x7 .i32)

/-- The activations' scales over 30 in their buffer. -/
theorem start_xs (c : Dev nD) (b : Fin 3) (s l : Fin 128) :
    View.canon (kernelRun0_A.sl.HS1_3 c arg1 harg1 x0) (ix2 (brow b s) l : S384x128.Idx)
      = x0 (ix2 b s) * ((1 / 30 : ℝ) : EReal) := by
  refine (canon_batches (e := .f32) 128 (fun b => k0_pay9 (View.readAt (Elt Ideal) arg1.view (one b).toLoadRect (harg1.unread x0))) b s l).trans ?_
  exact (pay_xs _ s l).trans (congrArg (· * _) (readAt_one arg1 harg1 x0 b s))

/-- The factors of the capped values in their buffer. -/
theorem start_c (c : Dev nD) (b : Fin 3) (s l : Fin 128) :
    View.canon (kernelRun0_A.sl.HS2_3 c arg2 harg2 x1) (ix2 (brow b s) l : S384x128.Idx)
      = Ideal.div ((30 * (Real.log 2)⁻¹ : ℝ) : EReal) (x1 (ix2 b s)) := by
  refine (canon_batches (e := .f32) 128 (fun b => k0_pay10 (View.readAt (Elt Ideal) arg2.view (one b).toLoadRect (harg2.unread x1))) b s l).trans ?_
  exact (pay_c _ s l).trans (congrArg (Ideal.div _) (readAt_one arg2 harg2 x1 b s))

theorem lane_emb (R : Fin 384) (k : Fin 7) :
    (Rect.unit (s := S384x128) ![0, 0] S384x7.size inb_S384x128_S384x7_0_0).emb (ix2 R k : S384x7.Idx) = (ix2 R (lane k) : S384x128.Idx) := by
  funext d
  apply Fin.ext
  fin_cases d
  · show 0 + 1 * R.val = R.val
    omega
  · show 0 + 1 * k.val = k.val
    omega

/-- A logical shift right by seven divides by 128. -/
theorem shrui_seven (x : BitVec 32) : IntOp.shrui ArithUnit.vector x 7#32 = BitVec.ofNat 32 (x.toNat / 128) := by
  have h : IntOp.shrui ArithUnit.vector x 7#32 = x >>> 7#32 := if_pos (by decide)
  rw [h]
  apply BitVec.eq_of_toNat_eq
  have := x.isLt
  simp only [BitVec.ushiftRight_eq', BitVec.toNat_ushiftRight, BitVec.toNat_ofNat, Nat.shiftRight_eq_div_pow]
  rw [show (2 : ℕ) ^ (7 % 2 ^ 32) = 128 by norm_num]
  omega

/-- The low seven bits are the remainder by 128. -/
theorem andi_mask (x : BitVec 32) : IntOp.andi x 127#32 = BitVec.ofNat 32 (x.toNat % 128) := by
  show x &&& 127#32 = _
  apply BitVec.eq_of_toNat_eq
  have := x.isLt
  have h := Nat.and_two_pow_sub_one_eq_mod x.toNat 7
  simp only [BitVec.toNat_and, BitVec.toNat_ofNat]
  norm_num at h ⊢
  omega

/-- The targets' high bits in their buffer. -/
theorem start_hi (c : Dev nD) (R : Fin 384) (k : Fin 7) :
    View.canon (kernelRun0_A.sl.HS3_2 (F := Ideal) c arg3 harg3 x2) (ix2 R (lane k) : S384x128.Idx)
      = BitVec.ofNat 32 ((x2 (ix2 R k)).toNat / 128) := by
  rw [← lane_emb]
  refine (View.canon_cons_emb (Val := Elt Ideal) (Rect.unit (s := S384x128) ![0, 0] S384x7.size inb_S384x128_S384x7_0_0) _ _ (ix2 R k : S384x7.Idx)).trans ?_
  rw [View.readAt_eq_ld, harg3.read_unread, View.ld_unit_zero (by funext a; fin_cases a <;> rfl)]
  unfold k0_pay18 k0_pay17; pointwise
  exact shrui_seven _

/-- The targets' low bits in their buffer. -/
theorem start_lo (c : Dev nD) (R : Fin 384) (k : Fin 7) :
    View.canon (kernelRun0_A.sl.HS4_2 (F := Ideal) c arg3 harg3 x2) (ix2 R (lane k) : S384x128.Idx)
      = BitVec.ofNat 32 ((x2 (ix2 R k)).toNat % 128) := by
  rw [← lane_emb]
  refine (View.canon_cons_emb (Val := Elt Ideal) (Rect.unit (s := S384x128) ![0, 0] S384x7.size inb_S384x128_S384x7_0_0) _ _ (ix2 R k : S384x7.Idx)).trans ?_
  unfold kernelRun0_A.sl.r
  rw [View.readAt_eq_ld, harg3.read_unread, View.ld_unit_zero (by funext a; fin_cases a <;> rfl)]
  unfold k0_pay57 k0_pay17; pointwise
  exact andi_mask _

/-- The running maximum starts at a real. -/
theorem start_m (c : Dev nD) : ∃ M : ℝ, ∀ y, View.canon (kernelRun0_A.sl.HS5_1 (F := Ideal)) y = (M : EReal) := by
  unfold kernelRun0_A.sl.HS5_1
  rw [View.canon_unit_zero (by funext a; fin_cases a <;> rfl)]
  unfold k0_pay58
  refine ⟨_, fun y => init_bits⟩

/-- The running sum starts at zero. -/
theorem start_s0 (c : Dev nD) : View.canon (kernelRun0_A.sl.HS6_1 (F := Ideal)) = fun _ => 0 := by
  unfold kernelRun0_A.sl.HS6_1
  rw [View.canon_unit_zero (by funext a; fin_cases a <;> rfl)]
  unfold k0_pay59
  exact funext fun y => zero_bits

/-- The running first moment starts at zero. -/
theorem start_s1 (c : Dev nD) : View.canon (kernelRun0_A.sl.HS7_1 (F := Ideal)) = fun _ => 0 := by
  unfold kernelRun0_A.sl.HS7_1
  rw [View.canon_unit_zero (by funext a; fin_cases a <;> rfl)]
  unfold k0_pay60
  exact funext fun y => zero_bits

/-- The running second moment starts at zero. -/
theorem start_s2 (c : Dev nD) : View.canon (kernelRun0_A.sl.HS8_1 (F := Ideal)) = fun _ => 0 := by
  unfold kernelRun0_A.sl.HS8_1
  rw [View.canon_unit_zero (by funext a; fin_cases a <;> rfl)]
  unfold k0_pay61
  exact funext fun y => zero_bits

/-- The picked values' buffer starts at zero. -/
theorem start_yt (c : Dev nD) : View.canon (kernelRun0_A.sl.HS9_1 (F := Ideal)) = fun _ => 0 := by
  unfold kernelRun0_A.sl.HS9_1
  rw [View.canon_unit_zero (by funext a; fin_cases a <;> rfl)]
  unfold k0_pay62
  exact funext fun y => zero_bits

end Cert.KernelIdeal.Step
-- ==== Proof.StepStart.lean ====
module

public import proofs.«01_k».proof.Proof.StepValue
public import proofs.«01_k».proof.Proof.Prologue

@[expose] public section

set_option maxRecDepth 16384
set_option maxHeartbeats 1000000

noncomputable section

/-! # The state after the first grid point -/

namespace Cert.KernelIdeal.Step

open Idealize.ShloMosaic Idealize.ShloMosaic.TcCoe Idealize.ShloMosaic.Tactic
open Cert.KernelIdeal Cert.KernelIdeal.Gen Cert.SoftmaxMath

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec Ideal S3x128 .f32) (x1 : Vec Ideal S3x128 .f32) (x2 : Vec Ideal S384x7 .i32) (x3 : Vec Ideal S384x7168 .fp8e4m3) (x4 : Vec Ideal S1x512 .f32) (x5 : Vec Ideal S512x7168 .fp8e4m3)
variable (xs1 : Vec Ideal S384x128 .f32) (xs2 : Vec Ideal S384x128 .f32) (xs3 : Vec Ideal S384x128 .i32) (xs4 : Vec Ideal S384x128 .i32) (xs5 : Vec Ideal S384x128 .f32) (xs6 : Vec Ideal S384x128 .f32) (xs7 : Vec Ideal S384x128 .f32) (xs8 : Vec Ideal S384x128 .f32) (xs9 : Vec Ideal S384x128 .f32)
variable {X C : Fin 384 → EReal} {T : Fin 384 → Fin 7 → ℕ} {U : Fin 384 → ℕ → Fin 128 → ℝ}

/-- Each group's loads at the first grid point. -/
theorem GIn.start (c : Dev nD) (hX : ∀ b s, X (brow b s) = x0 (ix2 b s) * ((1 / 30 : ℝ) : EReal))
    (hC : ∀ b s, C (brow b s) = Ideal.div ((30 * (Real.log 2)⁻¹ : ℝ) : EReal) (x1 (ix2 b s)))
    (hT : ∀ R k, T R k = (x2 (ix2 R k)).toNat) (hb : Blocks x3 x4 x5 X C U 0) (gi : Fin 12) :
    GIn T U 0 gi (fresh i arg1 harg1 arg2 harg2 arg3 harg3 arg4 harg4 arg5 harg5 arg6 harg6 arg10 arg11 arg12 arg13 arg14 arg15 arg16 arg17 arg18 arg19 x0 x1 x2 x3 x4 x5 c gi) := by
  have hxs (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).xs (ix2 r l) = X (row gi r) := by
    refine (readCov_rows arg11 _ gi r l).trans ?_
    obtain ⟨b, s, h⟩ := exists_brow (row gi r)
    rw [h, start_xs, hX]
  have hc (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).c (ix2 r l) = C (row gi r) := by
    refine (readCov_rows arg12 _ gi r l).trans ?_
    obtain ⟨b, s, h⟩ := exists_brow (row gi r)
    rw [h, start_c, hC]
  have hm (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).m (ix2 r l) = View.canon (kernelRun0_A.sl.HS5_1 (F := Ideal)) (ix2 (row gi r) l) := by
    refine (readCov_rows arg15 _ gi r l).trans ?_
    refine (canon_chain (e := .f32) (beforeM (F := Ideal) arg1 harg1 arg2 harg2 arg4 harg4 arg5 harg5 arg6 harg6 arg10 arg11 arg12 arg15 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeM) (beforeM_succ (F := Ideal) i arg1 harg1 arg2 harg2 arg3 harg3 arg4 harg4 arg5 harg5 arg6 harg6 arg10 arg11 arg12 arg13 arg14 arg15 arg16 arg17 arg18 arg19 x0 x1 x2 x3 x4 x5 c) gi r l gi.val gi.isLt).trans ?_
    rw [if_neg (lt_irrefl _)]; rfl
  have hs0 (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).s0 (ix2 r l) = View.canon (kernelRun0_A.sl.HS6_1 (F := Ideal)) (ix2 (row gi r) l) := by
    refine (readCov_rows arg16 _ gi r l).trans ?_
    refine (canon_chain (e := .f32) (beforeS0 (F := Ideal) arg1 harg1 arg2 harg2 arg4 harg4 arg5 harg5 arg6 harg6 arg10 arg11 arg12 arg15 arg16 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS0) (beforeS0_succ (F := Ideal) i arg1 harg1 arg2 harg2 arg3 harg3 arg4 harg4 arg5 harg5 arg6 harg6 arg10 arg11 arg12 arg13 arg14 arg15 arg16 arg17 arg18 arg19 x0 x1 x2 x3 x4 x5 c) gi r l gi.val gi.isLt).trans ?_
    rw [if_neg (lt_irrefl _)]; rfl
  have hs1 (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).s1 (ix2 r l) = View.canon (kernelRun0_A.sl.HS7_1 (F := Ideal)) (ix2 (row gi r) l) := by
    refine (readCov_rows arg17 _ gi r l).trans ?_
    refine (canon_chain (e := .f32) (beforeS1 (F := Ideal) arg1 harg1 arg2 harg2 arg4 harg4 arg5 harg5 arg6 harg6 arg10 arg11 arg12 arg15 arg16 arg17 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS1) (beforeS1_succ (F := Ideal) i arg1 harg1 arg2 harg2 arg3 harg3 arg4 harg4 arg5 harg5 arg6 harg6 arg10 arg11 arg12 arg13 arg14 arg15 arg16 arg17 arg18 arg19 x0 x1 x2 x3 x4 x5 c) gi r l gi.val gi.isLt).trans ?_
    rw [if_neg (lt_irrefl _)]; rfl
  have hs2 (r : Fin 32) (l : Fin 128) : (fresh i arg1 harg1 arg2 harg2 arg3 harg3 arg4 harg4 arg5 harg5 arg6 harg6 arg10 arg11 arg12 arg13 arg14 arg15 arg16 arg17 arg18 arg19 x0 x1 x2 x3 x4 x5 c gi).s2 (ix2 r l) = View.canon (kernelRun0_A.sl.HS8_1 (F := Ideal)) (ix2 (row gi r) l) := by
    refine (readCov_rows arg18 _ gi r l).trans ?_
    refine (canon_chain (e := .f32) (beforeS2 (F := Ideal) arg1 harg1 arg2 harg2 arg4 harg4 arg5 harg5 arg6 harg6 arg10 arg11 arg12 arg15 arg16 arg17 arg18 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS2) (beforeS2_succ (F := Ideal) i arg1 harg1 arg2 harg2 arg3 harg3 arg4 harg4 arg5 harg5 arg6 harg6 arg10 arg11 arg12 arg13 arg14 arg15 arg16 arg17 arg18 arg19 x0 x1 x2 x3 x4 x5 c) gi r l gi.val gi.isLt).trans ?_
    rw [if_neg (lt_irrefl _)]; rfl
  refine { hi := fun r k => ?_, lo := fun r k => ?_, mom := fun r l => ?_, yt := fun r k h => absurd h (by omega), y0 := fun r l => ?_, y1 := fun r l => ?_, y2 := fun r l => ?_, y3 := fun r l => ?_ }
  · refine (readCov_rows arg13 _ gi r (lane k)).trans ?_
    rw [start_hi, hT]
  · refine (readCov_rows arg14 _ gi r (lane k)).trans ?_
    rw [start_lo, hT]
  · obtain ⟨M, hM⟩ := start_m c
    refine ⟨M, (hm r l).trans (hM _), (hs0 r l).trans ?_, (hs1 r l).trans ?_, (hs2 r l).trans ?_⟩
    · rw [start_s0 c]; simp [moment]
    · rw [start_s1 c]; simp [moment]
    · rw [start_s2 c]; simp [moment]
  · exact hb.yv_eq arg4 harg4 arg5 harg5 arg6 harg6 arg10 x3 x4 x5 gi 0 _ _ hxs hc r l
  · exact hb.yv_eq arg4 harg4 arg5 harg5 arg6 harg6 arg10 x3 x4 x5 gi 1 _ _ hxs hc r l
  · exact hb.yv_eq arg4 harg4 arg5 harg5 arg6 harg6 arg10 x3 x4 x5 gi 2 _ _ hxs hc r l
  · exact hb.yv_eq arg4 harg4 arg5 harg5 arg6 harg6 arg10 x3 x4 x5 gi 3 _ _ hxs hc r l

/-- The state after the first grid point. -/
theorem Inv.stepA (c : Dev nD) (hc0 : cond0_0 i) (hc1 : ¬cond0_1 i) (hi : (i 0).val = 0)
    (hX : ∀ b s, X (brow b s) = x0 (ix2 b s) * ((1 / 30 : ℝ) : EReal))
    (hC : ∀ b s, C (brow b s) = Ideal.div ((30 * (Real.log 2)⁻¹ : ℝ) : EReal) (x1 (ix2 b s)))
    (hT : ∀ R k, T R k = (x2 (ix2 R k)).toNat) (hb : Blocks x3 x4 x5 X C U 0) (hT' : ∀ R k, T R k < 49152) :
    Inv X C T U 4 (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) (sout0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5) := by
  refine Inv.of_groups (fun gi => GIn.start i arg1 harg1 arg2 harg2 arg3 harg3 arg4 harg4 arg5 harg5 arg6 harg6 arg10 arg11 arg12 arg13 arg14 arg15 arg16 arg17 arg18 arg19 x0 x1 x2 x3 x4 x5 c hX hC hT hb gi) (by omega) hT' (chunk0 i)
    ((chunk0_eq i).trans (by rw [hi])) ?_ ?_ ?_ ?_ ?_ ?_ ?_ ?_ ?_
  · intro R l
    unfold sout0_A_1
    rw [View.read_writes_junk_eq_canon]
    obtain ⟨b, s, rfl⟩ := exists_brow R
    exact (start_xs arg1 harg1 x0 c b s l).trans (hX b s).symm
  · intro R l
    unfold sout0_A_2
    rw [View.read_writes_junk_eq_canon]
    obtain ⟨b, s, rfl⟩ := exists_brow R
    exact (start_c arg2 harg2 x1 c b s l).trans (hC b s).symm
  · intro R k
    unfold sout0_A_3
    rw [View.read_writes_junk_eq_canon, hT]
    exact start_hi arg3 harg3 x2 c R k
  · intro R k
    unfold sout0_A_4
    rw [View.read_writes_junk_eq_canon, hT]
    exact start_lo arg3 harg3 x2 c R k
  · intro g r l
    unfold sout0_A_5
    rw [View.read_writes_junk_eq_canon, runA_5]
    exact canon_chain_last (e := .f32) (beforeM (F := Ideal) arg1 harg1 arg2 harg2 arg4 harg4 arg5 harg5 arg6 harg6 arg10 arg11 arg12 arg15 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeM) (beforeM_succ (F := Ideal) i arg1 harg1 arg2 harg2 arg3 harg3 arg4 harg4 arg5 harg5 arg6 harg6 arg10 arg11 arg12 arg13 arg14 arg15 arg16 arg17 arg18 arg19 x0 x1 x2 x3 x4 x5 c) g r l
  · intro g r l
    unfold sout0_A_6
    rw [View.read_writes_junk_eq_canon, runA_6]
    exact canon_chain_last (e := .f32) (beforeS0 (F := Ideal) arg1 harg1 arg2 harg2 arg4 harg4 arg5 harg5 arg6 harg6 arg10 arg11 arg12 arg15 arg16 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS0) (beforeS0_succ (F := Ideal) i arg1 harg1 arg2 harg2 arg3 harg3 arg4 harg4 arg5 harg5 arg6 harg6 arg10 arg11 arg12 arg13 arg14 arg15 arg16 arg17 arg18 arg19 x0 x1 x2 x3 x4 x5 c) g r l
  · intro g r l
    unfold sout0_A_7
    rw [View.read_writes_junk_eq_canon, runA_7]
    exact canon_chain_last (e := .f32) (beforeS1 (F := Ideal) arg1 harg1 arg2 harg2 arg4 harg4 arg5 harg5 arg6 harg6 arg10 arg11 arg12 arg15 arg16 arg17 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS1) (beforeS1_succ (F := Ideal) i arg1 harg1 arg2 harg2 arg3 harg3 arg4 harg4 arg5 harg5 arg6 harg6 arg10 arg11 arg12 arg13 arg14 arg15 arg16 arg17 arg18 arg19 x0 x1 x2 x3 x4 x5 c) g r l
  · intro g r l
    unfold sout0_A_8
    rw [View.read_writes_junk_eq_canon, runA_8]
    exact canon_chain_last (e := .f32) (beforeS2 (F := Ideal) arg1 harg1 arg2 harg2 arg4 harg4 arg5 harg5 arg6 harg6 arg10 arg11 arg12 arg15 arg16 arg17 arg18 x0 x1 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeS2) (beforeS2_succ (F := Ideal) i arg1 harg1 arg2 harg2 arg3 harg3 arg4 harg4 arg5 harg5 arg6 harg6 arg10 arg11 arg12 arg13 arg14 arg15 arg16 arg17 arg18 arg19 x0 x1 x2 x3 x4 x5 c) g r l
  · intro g r l
    unfold sout0_A_9
    rw [View.read_writes_junk_eq_canon, runA_9]
    exact canon_chain_last (e := .f32) (beforeYt (F := Ideal) i arg1 harg1 arg2 harg2 arg3 harg3 arg4 harg4 arg5 harg5 arg6 harg6 arg10 arg11 arg12 arg13 arg14 arg19 x0 x1 x2 x3 x4 x5 c) (fun g => (fresh i arg1 harg1 arg2 harg2 arg3 harg3 arg4 harg4 arg5 harg5 arg6 harg6 arg10 arg11 arg12 arg13 arg14 arg15 arg16 arg17 arg18 arg19 x0 x1 x2 x3 x4 x5 c g).storeYt (chunk0 i)) (beforeYt_succ (F := Ideal) i arg1 harg1 arg2 harg2 arg3 harg3 arg4 harg4 arg5 harg5 arg6 harg6 arg10 arg11 arg12 arg13 arg14 arg15 arg16 arg17 arg18 arg19 x0 x1 x2 x3 x4 x5 c) g r l

end Cert.KernelIdeal.Step
-- ==== Proof.Inputs.lean ====
module

public import proofs.«01_k».proof.Proof.Logit
public import proofs.«01_k».proof.Proof.StepStart
public import Idealize.ShloMosaic.Lib.Pipeline.Value
public import Idealize.ShloMosaic.Lib.Pipeline.FrameSuffix
public import Idealize.ShloMosaic.Lib.StableHlo.RunRead

@[expose] public section

set_option maxRecDepth 16384

noncomputable section

/-! # The blocks each grid point reads

Each input window's block at a grid point, as entries of the arguments. -/

namespace Cert.KernelIdeal.Step

open Idealize.ShloMosaic Idealize.ShloMosaic.TcCoe Idealize.SL.Sem
open Cert.KernelIdeal Cert.KernelIdeal.Gen Cert.SoftmaxMath

variable (m : (ℓ : Loc nD τ sig) → Buf (Elt Ideal) ℓ)

/-- The grid has one coordinate, the point itself. -/
theorem coords_zero (t : Fin cfg0.N) : ((grid0.coords t) 0).val = t.val := by
  have ht : t.val < 96 := Nat.lt_of_lt_of_eq t.isLt N_0
  have e0 : (grid0.coords t 0).val = t.val / 1 % 96 := Pipeline.Grid.coords_val t 0 (by decide) rfl
  omega

theorem index_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)

theorem index_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

theorem emb_0 (t : Fin cfg0.N) (y : S3x128.Idx) : ((cfg0.win 0).blk t).view.emb y = y := by
  funext a; apply Fin.ext
  match a with
  | ⟨0, _⟩ => show 0 * 3 + 1 * (y 0).val = (y 0).val; omega
  | ⟨1, _⟩ => show 0 * 128 + 1 * (y 1).val = (y 1).val; omega

theorem emb_1 (t : Fin cfg0.N) (y : S3x128.Idx) : ((cfg0.win 1).blk t).view.emb y = y := by
  funext a; apply Fin.ext
  match a with
  | ⟨0, _⟩ => show 0 * 3 + 1 * (y 0).val = (y 0).val; omega
  | ⟨1, _⟩ => show 0 * 128 + 1 * (y 1).val = (y 1).val; omega

theorem emb_2 (t : Fin cfg0.N) (y : S384x7.Idx) : ((cfg0.win 2).blk t).view.emb y = y := by
  funext a; apply Fin.ext
  match a with
  | ⟨0, _⟩ => show 0 * 384 + 1 * (y 0).val = (y 0).val; omega
  | ⟨1, _⟩ => show 0 * 7 + 1 * (y 1).val = (y 1).val; omega

theorem emb_3 (t : Fin cfg0.N) (y : S384x7168.Idx) : ((cfg0.win 3).blk t).view.emb y = y := by
  funext a; apply Fin.ext
  match a with
  | ⟨0, _⟩ => show 0 * 384 + 1 * (y 0).val = (y 0).val; omega
  | ⟨1, _⟩ => show 0 * 7168 + 1 * (y 1).val = (y 1).val; omega

/-- Entry `p` of block `n`: a vocabulary entry. -/
def voc (t : Fin cfg0.N) (p : Fin 512) : Fin 49152 :=
  ⟨512 * t.val + p.val, by have := Nat.lt_of_lt_of_eq t.isLt N_0; omega⟩

theorem emb_4 (t : Fin cfg0.N) (p : Fin 512) :
    ((cfg0.win 4).blk t).view.emb (ix2 0 p : S1x512.Idx) = (ix2 0 (voc t p) : S1x49152.Idx) := by
  have h := index_4 t
  funext a; apply Fin.ext
  match a with
  | ⟨0, _⟩ => show win0_4.index t (0 : Fin 2) * 1 + 1 * 0 = 0; omega
  | ⟨1, _⟩ => show win0_4.index t (1 : Fin 2) * 512 + 1 * p.val = 512 * t.val + p.val; omega

theorem emb_5 (t : Fin cfg0.N) (p : Fin 512) (k : Fin 7168) :
    ((cfg0.win 5).blk t).view.emb (ix2 p k : S512x7168.Idx) = (ix2 (voc t p) k : S49152x7168.Idx) := by
  have h := index_5 t
  funext a; apply Fin.ext
  match a with
  | ⟨0, _⟩ => show win0_5.index t (0 : Fin 2) * 512 + 1 * p.val = 512 * t.val + p.val; omega
  | ⟨1, _⟩ => show win0_5.index t (1 : Fin 2) * 7168 + 1 * k.val = k.val; omega

/-- The row-major position of an entry of a merged array. -/
theorem merge_pos {α : Type} (n : ℕ) (x : (⟨3, ![3, 128, n]⟩ : Shape).Idx → α)
    (h : (⟨3, ![3, 128, n]⟩ : Shape).ShapeCasts (⟨2, ![384, n]⟩ : Shape)) (b : Fin 3) (s : Fin 128) (k : Fin n) :
    shapeCast (⟨2, ![384, n]⟩ : Shape) x h (ix2 (brow b s) k) = x (ix3 b s k) := by
  refine Idealize.ShloMosaic.shapeCast_apply x h _ _ ?_
  rw [Shape.rowMajor_val_three, Shape.rowMajor_val_two]
  show (b.val * 128 + s.val) * n + k.val = (128 * b.val + s.val) * n + k.val
  rw [Nat.mul_comm b.val]

theorem entry_0 (c : Dev nD) : V m c main_v0
    = shapeCast S384x7 (m ((c : Thread nD τ).loc main_arg4) : IVec S3x128x7 32) shapeCasts_S3x128x7_S384x7 := by
  unfold V
  after_reads_simp
  rfl

theorem entry_1 (c : Dev nD) : V m c main_v1
    = shapeCast S384x7168 (m ((c : Thread nD τ).loc main_arg0) : FVec Ideal S3x128x7168 .fp8e4m3)
        shapeCasts_S3x128x7168_S384x7168 := by
  unfold V
  after_reads_simp
  rfl

theorem entry_2 (c : Dev nD) : V m c main_v2
    = shapeCast S1x49152 (m ((c : Thread nD τ).loc main_arg3) : FVec Ideal S49152 .f32) shapeCasts_S49152_S1x49152 := by
  unfold V
  after_reads_simp
  rfl

theorem iblk_0 (c : Dev nD) (t : Fin cfg0.N) : iblk m c 0 t = m ((c : Thread nD τ).loc main_arg1) := by
  rw [← V_main_arg1 m c]
  funext y
  exact congrArg (V m c main_arg1) (emb_0 t y)

theorem iblk_1 (c : Dev nD) (t : Fin cfg0.N) : iblk m c 1 t = m ((c : Thread nD τ).loc main_arg5) := by
  rw [← V_main_arg5 m c]
  funext y
  exact congrArg (V m c main_arg5) (emb_1 t y)

theorem iblk_2 (c : Dev nD) (t : Fin cfg0.N) (b : Fin 3) (s : Fin 128) (k : Fin 7) :
    iblk m c 2 t (ix2 (brow b s) k : S384x7.Idx) = (m ((c : Thread nD τ).loc main_arg4) : IVec S3x128x7 32) (ix3 b s k) :=
  (congrArg (V m c main_v0) (emb_2 t _)).trans ((congrFun (entry_0 m c) _).trans (merge_pos 7 _ _ b s k))

theorem iblk_3 (c : Dev nD) (t : Fin cfg0.N) (b : Fin 3) (s : Fin 128) (k : Fin 7168) :
    iblk m c 3 t (ix2 (brow b s) k : S384x7168.Idx)
      = (m ((c : Thread nD τ).loc main_arg0) : FVec Ideal S3x128x7168 .fp8e4m3) (ix3 b s k) :=
  (congrArg (V m c main_v1) (emb_3 t _)).trans ((congrFun (entry_1 m c) _).trans (merge_pos 7168 _ _ b s k))

/-- One row read as a list. -/
theorem row_pos {α : Type} (x : S49152.Idx → α) (h : S49152.ShapeCasts S1x49152) (v : Fin 49152) :
    shapeCast S1x49152 x h (ix2 0 v) = x (ix1 v) := by
  refine Idealize.ShloMosaic.shapeCast_apply x h _ _ ?_
  rw [Shape.rowMajor_val_one, Shape.rowMajor_val_two]
  show v.val = 0 * 49152 + v.val
  omega

theorem iblk_4 (c : Dev nD) (t : Fin cfg0.N) (p : Fin 512) :
    iblk m c 4 t (ix2 0 p : S1x512.Idx) = (m ((c : Thread nD τ).loc main_arg3) : FVec Ideal S49152 .f32) (ix1 (voc t p)) :=
  (congrArg (V m c main_v2) (emb_4 t p)).trans ((congrFun (entry_2 m c) _).trans (row_pos _ _ (voc t p)))

theorem iblk_5 (c : Dev nD) (t : Fin cfg0.N) (p : Fin 512) (k : Fin 7168) :
    iblk m c 5 t (ix2 p k : S512x7168.Idx)
      = (m ((c : Thread nD τ).loc main_arg2) : FVec Ideal S49152x7168 .fp8e4m3) (ix2 (voc t p) k) :=
  (congrArg (V m c main_arg2) (emb_5 t p k)).trans (congrFun (V_main_arg2 m c) _)

end Cert.KernelIdeal.Step
-- ==== Proof.Final.lean ====
module

public import proofs.«01_k».proof.Proof.State
public import proofs.«01_k».proof.Proof.Prologue

@[expose] public section

set_option maxRecDepth 16384

noncomputable section

/-! # The results from the nine scratch buffers -/

namespace Cert.KernelIdeal.Step

open Idealize.ShloMosaic Idealize.ShloMosaic.TcCoe Idealize.ShloMosaic.Tactic
open Cert.KernelIdeal Cert.KernelIdeal.Gen Cert.SoftmaxMath

/-- The constant `1 / ln 2` of the kernel. -/
theorem inv_ln2 : Named.named (F := Ideal) κ "inv_ln2" (φ := .f32) 0x3FB8AA3B#32 = (((Real.log 2)⁻¹ : ℝ) : EReal) :=
  IdealRules.named_const.ideal_named_scalar _ _ _ _ rfl
/-- The constant `ln 2` of the kernel. -/
theorem ln2 : Named.named (F := Ideal) κ "ln2" (φ := .f32) 0x3F317218#32 = ((Real.log 2 : ℝ) : EReal) :=
  IdealRules.named_const.ideal_named_scalar _ _ _ _ rfl
/-- The constant `(ln 2)²` of the kernel. -/
theorem ln2_squared : Named.named (F := Ideal) κ "ln2_squared" (φ := .f32) 0x3EF5FDF0#32
    = (((Real.log 2) * (Real.log 2) : ℝ) : EReal) :=
  IdealRules.named_const.ideal_named_scalar _ _ _ _ rfl

/-- The bits of minus infinity. -/
theorem bot_bits : Ideal.ofBits .f32 0xFF800000#32 = ⊥ := by
  simp [Ideal.ofBits, Ideal.ieee]

/-- The largest of finitely many reals is a real. -/
theorem fold_max_real {n : ℕ} [NeZero n] (f : Fin n → ℝ) : ∃ c : ℝ, Finset.univ.fold max (⊥ : EReal) (fun l => (f l : EReal)) = c := by
  have h : Finset.univ.fold max (⊥ : EReal) (fun l => (f l : EReal)) = Finset.univ.sup (fun l => (f l : EReal)) := rfl
  obtain ⟨i, -, hi⟩ := Finset.exists_mem_eq_sup Finset.univ Finset.univ_nonempty (fun l => (f l : EReal))
  exact ⟨f i, h.trans hi⟩

/-- The sum of finitely many reals is a real. -/
theorem coe_sum {ι : Type*} (s : Finset ι) (f : ι → ℝ) : ∑ l ∈ s, (f l : EReal) = ((∑ l ∈ s, f l : ℝ) : EReal) := by
  classical
  induction s using Finset.induction_on with
  | empty => simp
  | insert a s ha ih => rw [Finset.sum_insert ha, Finset.sum_insert ha, ih, EReal.coe_add]

/-- The quotient of two reals. -/
theorem div_real (x : ℝ) {y : ℝ} (hy : y ≠ 0) : Ideal.div (x : EReal) (y : EReal) = ((x / y : ℝ) : EReal) :=
  (Ideal.div_coe hy _).trans (by rw [← EReal.coe_mul, mul_one_div])

section
variable (m s0 s1 s2 yt : Vec Ideal S128x128 .f32) (s : Fin 128) (M A0 A1 A2 : Fin 128 → ℝ)
  (hm : ∀ l, m (ix2 s l) = (M l : EReal)) (h0 : ∀ l, s0 (ix2 s l) = (A0 l : EReal))
  (h1 : ∀ l, s1 (ix2 s l) = (A1 l : EReal)) (h2 : ∀ l, s2 (ix2 s l) = (A2 l : EReal))
include hm

/-- The largest of the lanes' maxima is real. -/
theorem pay22_real : ∃ c : ℝ, k0_pay22 m (ix2 0 s) = (c : EReal) := by
  unfold k0_pay22 k0_pay19; pointwise
  rw [bot_bits, Finset.fold_congr (fun l _ => hm l)]
  exact fold_max_real M

variable (c : ℝ) (hc : k0_pay22 m (ix2 0 s) = (c : EReal))
include hc

theorem pay23_apply (l : Fin 128) : k0_pay23 m (ix2 l s) = ((M l - c : ℝ) : EReal) := by
  unfold k0_pay23 k0_pay19; pointwise
  rw [hc, hm, ← EReal.coe_sub]

theorem pay24_apply (l : Fin 128) : k0_pay24 m (ix2 l s) = (((2 : ℝ) ^ (M l - c) : ℝ) : EReal) := by
  unfold k0_pay24; pointwise
  rw [pay23_apply m s M hm c hc]
  exact Ideal.exp2_coe _

include h0
theorem pay26_apply : k0_pay26 m s0 (ix2 0 s) = ((∑ l, (2 : ℝ) ^ (M l - c) * A0 l : ℝ) : EReal) := by
  unfold k0_pay26 k0_pay20; pointwise
  rw [← coe_sum]
  refine Finset.sum_congr rfl fun l _ => ?_
  rw [pay24_apply m s M hm c hc, h0, ← EReal.coe_mul]

include h1
theorem pay25_apply (l : Fin 128) : k0_pay25 m s0 s1 (ix2 l s) = ((A1 l + (M l - c) * A0 l : ℝ) : EReal) := by
  unfold k0_pay25 k0_pay20 k0_pay21; pointwise
  rw [pay23_apply m s M hm c hc, h0, h1, ← EReal.coe_mul, ← EReal.coe_add]

/-- A lane-summed first moment. -/
theorem pay28_apply (hp : (∑ l, (2 : ℝ) ^ (M l - c) * A0 l) ≠ 0) : k0_pay28 m s0 s1 (ix2 0 s)
    = (((∑ l, (2 : ℝ) ^ (M l - c) * (A1 l + (M l - c) * A0 l)) / (∑ l, (2 : ℝ) ^ (M l - c) * A0 l) : ℝ) : EReal) := by
  unfold k0_pay28; pointwise
  have h : ∑ x : Fin 128, k0_pay24 m (ix2 x s) * k0_pay25 m s0 s1 (ix2 x s)
      = ((∑ l, (2 : ℝ) ^ (M l - c) * (A1 l + (M l - c) * A0 l) : ℝ) : EReal) := by
    rw [← coe_sum]
    refine Finset.sum_congr rfl fun l _ => ?_
    rw [pay24_apply m s M hm c hc, pay25_apply m s0 s1 s M A0 A1 hm h0 h1 c hc, ← EReal.coe_mul]
  rw [h, pay26_apply m s0 s M A0 hm h0 c hc]
  exact div_real _ hp

omit h1 in
/-- The logarithm to base two of the weight. -/
theorem pay27_apply (hp : 0 < ∑ l, (2 : ℝ) ^ (M l - c) * A0 l) : k0_pay27 m s0 (ix2 0 s)
    = ((Real.log (∑ l, (2 : ℝ) ^ (M l - c) * A0 l) * (Real.log 2)⁻¹ : ℝ) : EReal) := by
  unfold k0_pay27; pointwise
  rw [pay26_apply m s0 s M A0 hm h0 c hc, inv_ln2]
  refine (congrArg (· * _) ((Ideal.log_coe _).trans (if_neg (not_le.mpr hp)))).trans (EReal.coe_mul _ _).symm

/-- The entropy's formula. -/
theorem pay29_apply (hp : 0 < ∑ l, (2 : ℝ) ^ (M l - c) * A0 l) : k0_pay29 m s0 s1 (ix2 0 s)
    = (((Real.log (∑ l, (2 : ℝ) ^ (M l - c) * A0 l) * (Real.log 2)⁻¹
        - (∑ l, (2 : ℝ) ^ (M l - c) * (A1 l + (M l - c) * A0 l)) / (∑ l, (2 : ℝ) ^ (M l - c) * A0 l)) * Real.log 2 : ℝ) : EReal) := by
  unfold k0_pay29; pointwise
  rw [pay27_apply m s0 s M A0 hm h0 c hc hp, pay28_apply m s0 s1 s M A0 A1 hm h0 h1 c hc hp.ne', ln2,
    ← EReal.coe_sub, ← EReal.coe_mul]

include h2 in
/-- The varentropy's formula. -/
theorem pay30_apply (hp : 0 < ∑ l, (2 : ℝ) ^ (M l - c) * A0 l) : k0_pay30 m s0 s1 s2 (ix2 0 s)
    = ((((∑ l, (2 : ℝ) ^ (M l - c) * (A2 l + (M l - c) * (A1 l + (A1 l + (M l - c) * A0 l)))) / (∑ l, (2 : ℝ) ^ (M l - c) * A0 l)
        - (∑ l, (2 : ℝ) ^ (M l - c) * (A1 l + (M l - c) * A0 l)) / (∑ l, (2 : ℝ) ^ (M l - c) * A0 l)
          * ((∑ l, (2 : ℝ) ^ (M l - c) * (A1 l + (M l - c) * A0 l)) / (∑ l, (2 : ℝ) ^ (M l - c) * A0 l)))
        * (Real.log 2 * Real.log 2) : ℝ) : EReal) := by
  unfold k0_pay30 k0_pay21; pointwise
  have h : ∑ x : Fin 128, k0_pay24 m (ix2 x s) * (s2 (ix2 s x) + k0_pay23 m (ix2 x s) * (s1 (ix2 s x) + k0_pay25 m s0 s1 (ix2 x s)))
      = ((∑ l, (2 : ℝ) ^ (M l - c) * (A2 l + (M l - c) * (A1 l + (A1 l + (M l - c) * A0 l))) : ℝ) : EReal) := by
    rw [← coe_sum]
    refine Finset.sum_congr rfl fun l _ => ?_
    rw [pay24_apply m s M hm c hc, pay23_apply m s M hm c hc, pay25_apply m s0 s1 s M A0 A1 hm h0 h1 c hc, h1, h2,
      ← EReal.coe_add, ← EReal.coe_mul, ← EReal.coe_add, ← EReal.coe_mul]
  rw [h, pay26_apply m s0 s M A0 hm h0 c hc, pay28_apply m s0 s1 s M A0 A1 hm h0 h1 c hc hp.ne', ln2_squared]
  rw [div_real _ hp.ne', ← EReal.coe_mul, ← EReal.coe_sub, ← EReal.coe_mul]

omit h1 in
/-- A target's log-probability's formula. -/
theorem pay31_apply (hp : 0 < ∑ l, (2 : ℝ) ^ (M l - c) * A0 l) (k : Fin 7) (y : ℝ) (hy : yt (ix2 s (lane k)) = (y : EReal)) :
    k0_pay31 (k0_pay22 m) (k0_pay27 m s0) yt (ix2 s k)
    = (((y - (c + Real.log (∑ l, (2 : ℝ) ^ (M l - c) * A0 l) * (Real.log 2)⁻¹)) * Real.log 2 : ℝ) : EReal) := by
  unfold k0_pay31; pointwise
  rw [hc, pay27_apply m s0 s M A0 hm h0 c hc hp, ln2, ← EReal.coe_add]
  refine (congrArg (fun z => (z - _) * _) hy).trans ?_
  rw [← EReal.coe_sub, ← EReal.coe_mul]

end

/-- The lanes' chunks as one list of vocabulary entries. -/
def entries (U : Fin 384 → ℕ → Fin 128 → ℝ) (R : Fin 384) : Fin 384 × Fin 128 → ℝ := fun p => U R p.1.val p.2

/-- The rows of batch `b` of a scratch buffer. -/
def batch {e : EltTy} (v : Vec Ideal S384x128 e) (b : Fin 3) : Vec Ideal S128x128 e := fun j => v (ix2 (brow b (j 0)) (j 1))

variable {U : Fin 384 → ℕ → Fin 128 → ℝ}

/-- Sums over lanes of sums over chunks are sums over the vocabulary. -/
theorem sum_lanes (R : Fin 384) (c : ℝ) (k : ℕ) :
    ∑ l : Fin 128, moment (Finset.range 384) (fun n => U R n l) c k = moment Finset.univ (entries U R) c k := by
  simp only [moment, entries, Finset.sum_range]
  rw [Fintype.sum_prod_type, Finset.sum_comm]

variable {X C : Fin 384 → EReal} {T : Fin 384 → Fin 7 → ℕ} {xs c : Vec Ideal S384x128 .f32} {hi lo : Vec Ideal S384x128 .i32}
  {m s0 s1 s2 yt : Vec Ideal S384x128 .f32}

/-- What the last group of loads works on: the moments of the whole vocabulary about one common real. -/
theorem Inv.common (h : Inv X C T U 384 xs c hi lo m s0 s1 s2 yt) (b : Fin 3) (s : Fin 128) :
    ∃ (M A0 A1 A2 : Fin 128 → ℝ) (d : ℝ),
      (∀ l, batch m b (ix2 s l) = (M l : EReal)) ∧ (∀ l, batch s0 b (ix2 s l) = (A0 l : EReal)) ∧
      (∀ l, batch s1 b (ix2 s l) = (A1 l : EReal)) ∧ (∀ l, batch s2 b (ix2 s l) = (A2 l : EReal)) ∧
      k0_pay22 (batch m b) (ix2 0 s) = (d : EReal) ∧
      ∑ l, (2 : ℝ) ^ (M l - d) * A0 l = moment Finset.univ (entries U (brow b s)) d 0 ∧
      ∑ l, (2 : ℝ) ^ (M l - d) * (A1 l + (M l - d) * A0 l) = moment Finset.univ (entries U (brow b s)) d 1 ∧
      ∑ l, (2 : ℝ) ^ (M l - d) * (A2 l + (M l - d) * (A1 l + (A1 l + (M l - d) * A0 l))) =
        moment Finset.univ (entries U (brow b s)) d 2 := by
  choose M hM h0 h1 h2 using fun l => h.mom (brow b s) l
  obtain ⟨d, hd⟩ := pay22_real (batch m b) s M hM
  refine ⟨M, _, _, _, d, hM, h0, h1, h2, hd, ?_, ?_, ?_⟩
  · rw [← sum_lanes]; exact Finset.sum_congr rfl fun l _ => (moment_shift0 _ _ _ _).symm
  · rw [← sum_lanes]; exact Finset.sum_congr rfl fun l _ => (moment_shift1 _ _ _ _).symm
  · rw [← sum_lanes]; exact Finset.sum_congr rfl fun l _ => (moment_shift2 _ _ _ _).symm

/-- The entropy row of a batch. -/
theorem Inv.ent_eq (h : Inv X C T U 384 xs c hi lo m s0 s1 s2 yt) (b : Fin 3) (s : Fin 128) :
    k0_pay29 (batch m b) (batch s0 b) (batch s1 b) (ix2 0 s) = ((ent (entries U (brow b s)) : ℝ) : EReal) := by
  obtain ⟨M, A0, A1, A2, d, hM, h0, h1, h2, hd, e0, e1, e2⟩ := h.common b s
  have hp : 0 < ∑ l, (2 : ℝ) ^ (M l - d) * A0 l := e0 ▸ moment0_pos _ _
  rw [pay29_apply _ _ _ s M A0 A1 hM h0 h1 d hd hp, e0, e1, ← Cert.SoftmaxMath.ent_eq]

/-- The varentropy row of a batch. -/
theorem Inv.var_eq (h : Inv X C T U 384 xs c hi lo m s0 s1 s2 yt) (b : Fin 3) (s : Fin 128) :
    k0_pay30 (batch m b) (batch s0 b) (batch s1 b) (batch s2 b) (ix2 0 s) = ((varent (entries U (brow b s)) : ℝ) : EReal) := by
  obtain ⟨M, A0, A1, A2, d, hM, h0, h1, h2, hd, e0, e1, e2⟩ := h.common b s
  have hp : 0 < ∑ l, (2 : ℝ) ^ (M l - d) * A0 l := e0 ▸ moment0_pos _ _
  rw [pay30_apply _ _ _ _ s M A0 A1 A2 hM h0 h1 h2 d hd hp, e0, e1, e2, ← varent_eq]

/-- Where a target's value is in the vocabulary. -/
def place (t : ℕ) (ht : t < 49152) : Fin 384 × Fin 128 := (⟨t / 128, by omega⟩, ⟨t % 128, Nat.mod_lt _ (by decide)⟩)

/-- The target log-probabilities of a batch. -/
theorem Inv.logp_eq (h : Inv X C T U 384 xs c hi lo m s0 s1 s2 yt) (hT : ∀ R k, T R k < 49152) (b : Fin 3) (s : Fin 128) (k : Fin 7) :
    k0_pay31 (k0_pay22 (batch m b)) (k0_pay27 (batch m b) (batch s0 b)) (batch yt b) (ix2 s k)
      = ((logp (entries U (brow b s)) (place (T (brow b s) k) (hT _ _)) : ℝ) : EReal) := by
  obtain ⟨M, A0, A1, A2, d, hM, h0, h1, h2, hd, e0, e1, e2⟩ := h.common b s
  have hp : 0 < ∑ l, (2 : ℝ) ^ (M l - d) * A0 l := e0 ▸ moment0_pos _ _
  rw [pay31_apply _ _ _ s M A0 hM h0 d hd hp k _ (h.yt (brow b s) k (by have := hT (brow b s) k; omega)), e0, Cert.SoftmaxMath.logp_eq _ d]
  rfl

end Cert.KernelIdeal.Step
-- ==== Proof.FinalOut.lean ====
module

public import proofs.«01_k».proof.Proof.Final
public import proofs.«01_k».proof.Proof.StepC
public import proofs.«01_k».proof.Proof.StepValue

@[expose] public section

set_option maxRecDepth 16384
set_option maxHeartbeats 1000000

noncomputable section

/-! # The results that the last grid point stores -/

namespace Cert.KernelIdeal.Step

open Idealize.ShloMosaic Idealize.ShloMosaic.TcCoe Idealize.ShloMosaic.Tactic
open Cert.KernelIdeal Cert.KernelIdeal.Gen Cert.SoftmaxMath

/-- What three batches' row stores hold. -/
theorem canon_ones {e : EltTy} (p : Fin 3 → Vec Ideal S1x128 e) (b : Fin 3) (s : Fin 128) :
    View.canon ([⟨one 2, p 2⟩, ⟨one 1, p 1⟩, ⟨one 0, p 0⟩] : List (View.Piece (Elt Ideal) S3x128 e))
      (ix2 b s) = p b (ix2 0 s) := by
  have hmem (b' : Fin 3) (h : b ≠ b') : (ix2 b s : S3x128.Idx) ∉ (one b').set := by
    intro hm
    obtain ⟨x, hx⟩ := (one b').exists_idx_of_mem hm
    have h0 : b'.val + 1 * (x 0).val = b.val := congrArg Fin.val (congrFun hx 0)
    have h1 : (x 0).val < 1 := (x 0).isLt
    exact h (Fin.ext (by omega))
  have hself (b' : Fin 3) (h : b = b') (L : List (View.Piece (Elt Ideal) S3x128 e)) :
      View.canon ((⟨one b', p b'⟩ : View.Piece (Elt Ideal) S3x128 e) :: L) (ix2 b s) = p b (ix2 0 s) := by
    subst h
    exact (congrArg _ (one_emb b s).symm).trans (View.canon_cons_emb (Val := Elt Ideal) (one b) (p b) L _)
  have hne (b' : Fin 3) (h : b ≠ b') (L : List (View.Piece (Elt Ideal) S3x128 e)) :
      View.canon ((⟨one b', p b'⟩ : View.Piece (Elt Ideal) S3x128 e) :: L) (ix2 b s) =
        View.canon L (ix2 b s) := View.canon_cons_of_not_mem (Val := Elt Ideal) ⟨one b', p b'⟩ L (hmem b' h)
  by_cases h2 : b = 2
  · exact hself 2 h2 _
  refine (hne 2 h2 _).trans ?_
  by_cases h1 : b = 1
  · exact hself 1 h1 _
  refine (hne 1 h1 _).trans (hself 0 ?_ _)
  omega

/-- A load of a batch's rows from the stores before it. -/
theorem readCov_batch {e : EltTy} (a : Memref sig .tc .vmem S384x128 e) (L : List (View.Piece (Elt Ideal) S384x128 e)) (b : Fin 3) :
    (a.view.readCov L (brect 128 b).toLoadRect : Vec Ideal S128x128 e) = batch (View.canon L) b := by
  rw [View.readCov_eq_canon']
  funext j
  obtain ⟨r, l, rfl⟩ : ∃ r l, j = (ix2 r l : S128x128.Idx) := ⟨j 0, j 1, eq_ix2 j⟩
  exact congrArg (View.canon L) (brect_emb 128 b r l)

variable (i : grid0.Coords)
  (arg1 : Memref sig .tc .vmem S3x128 .f32) (harg1 : arg1.IsWhole)
  (arg2 : Memref sig .tc .vmem S3x128 .f32) (harg2 : arg2.IsWhole)
  (arg3 : Memref sig .tc .vmem S384x7 .i32) (harg3 : arg3.IsWhole)
  (arg4 : Memref sig .tc .vmem S384x7168 .fp8e4m3) (harg4 : arg4.IsWhole)
  (arg5 : Memref sig .tc .vmem S1x512 .f32) (harg5 : arg5.IsWhole)
  (arg6 : Memref sig .tc .vmem S512x7168 .fp8e4m3) (harg6 : arg6.IsWhole)
  (arg7 : Memref sig .tc .vmem S3x128 .f32) (harg7 : arg7.IsWhole)
  (arg8 : Memref sig .tc .vmem S3x128 .f32) (harg8 : arg8.IsWhole)
  (arg9 : Memref sig .tc .vmem S384x7 .f32) (harg9 : arg9.IsWhole)
  (arg10 : Memref sig .tc .vmem S384x512 .f32) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S384x128 .i32) (harg13 : arg13.IsWhole)
  (arg14 : Memref sig .tc .vmem S384x128 .i32) (harg14 : arg14.IsWhole)
  (arg15 : Memref sig .tc .vmem S384x128 .f32) (harg15 : arg15.IsWhole)
  (arg16 : Memref sig .tc .vmem S384x128 .f32) (harg16 : arg16.IsWhole)
  (arg17 : Memref sig .tc .vmem S384x128 .f32) (harg17 : arg17.IsWhole)
  (arg18 : Memref sig .tc .vmem S384x128 .f32) (harg18 : arg18.IsWhole)
  (arg19 : Memref sig .tc .vmem S384x128 .f32) (harg19 : arg19.IsWhole)
variable (x0 : Vec Ideal S3x128 .f32) (x1 : Vec Ideal S3x128 .f32) (x2 : Vec Ideal S384x7 .i32) (x3 : Vec Ideal S384x7168 .fp8e4m3) (x4 : Vec Ideal S1x512 .f32) (x5 : Vec Ideal S512x7168 .fp8e4m3)
variable (xs1 : Vec Ideal S384x128 .f32) (xs2 : Vec Ideal S384x128 .f32) (xs3 : Vec Ideal S384x128 .i32) (xs4 : Vec Ideal S384x128 .i32) (xs5 : Vec Ideal S384x128 .f32) (xs6 : Vec Ideal S384x128 .f32) (xs7 : Vec Ideal S384x128 .f32) (xs8 : Vec Ideal S384x128 .f32) (xs9 : Vec Ideal S384x128 .f32)
variable {X C : Fin 384 → EReal} {T : Fin 384 → Fin 7 → ℕ} {U : Fin 384 → ℕ → Fin 128 → ℝ}

/-- The stores to the entropy result. -/
theorem outC_6 (c : Dev nD) (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).1 =
      [⟨one 2, k0_pay29 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 2).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 2).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 2).toLoadRect)⟩, ⟨one 1, k0_pay29 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 1).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 1).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 1).toLoadRect)⟩, ⟨one 0, k0_pay29 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 0).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 0).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 0).toLoadRect)⟩] := by
  unfold kernelRun0_C; dsimp only
  refine congr (congrArg List.cons (congrArg (Sigma.mk _) ?_)) (congr (congrArg List.cons (congrArg (Sigma.mk _) ?_)) (congr (congrArg List.cons (congrArg (Sigma.mk _) ?_)) rfl))
  · rfl
  · rfl
  · rfl

/-- The stores to the varentropy result. -/
theorem outC_7 (c : Dev nD) (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.1 =
      [⟨one 2, k0_pay30 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 2).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 2).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 2).toLoadRect) (arg18.view.readCov (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) (brect 128 2).toLoadRect)⟩, ⟨one 1, k0_pay30 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 1).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 1).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 1).toLoadRect) (arg18.view.readCov (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) (brect 128 1).toLoadRect)⟩, ⟨one 0, k0_pay30 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 0).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 0).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 0).toLoadRect) (arg18.view.readCov (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) (brect 128 0).toLoadRect)⟩] := by
  unfold kernelRun0_C; dsimp only
  refine congr (congrArg List.cons (congrArg (Sigma.mk _) ?_)) (congr (congrArg List.cons (congrArg (Sigma.mk _) ?_)) (congr (congrArg List.cons (congrArg (Sigma.mk _) ?_)) rfl))
  · rfl
  · rfl
  · rfl

/-- The stores to the log-probability result. -/
theorem outC_8 (c : Dev nD) (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9).2.2.1 =
      [⟨brect 7 2, k0_pay31 (F := Ideal) (k0_pay22 (arg15.view.readCov (kernelRun0_C.sl.HS5_12 (F := Ideal) c arg4 harg4 arg5 harg5 arg6 harg6 arg10 arg11 harg11 arg12 harg12 arg15 harg15 x3 x4 x5 xs1 xs2 xs5) (brect 128 2).toLoadRect)) (k0_pay27 (arg15.view.readCov (kernelRun0_C.sl.HS5_12 (F := Ideal) c arg4 harg4 arg5 harg5 arg6 harg6 arg10 arg11 harg11 arg12 harg12 arg15 harg15 x3 x4 x5 xs1 xs2 xs5) (brect 128 2).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 2).toLoadRect)) (arg19.view.readCov (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) (brect 128 2).toLoadRect)⟩, ⟨brect 7 1, k0_pay31 (F := Ideal) (k0_pay22 (arg15.view.readCov (kernelRun0_C.sl.HS5_12 (F := Ideal) c arg4 harg4 arg5 harg5 arg6 harg6 arg10 arg11 harg11 arg12 harg12 arg15 harg15 x3 x4 x5 xs1 xs2 xs5) (brect 128 1).toLoadRect)) (k0_pay27 (arg15.view.readCov (kernelRun0_C.sl.HS5_12 (F := Ideal) c arg4 harg4 arg5 harg5 arg6 harg6 arg10 arg11 harg11 arg12 harg12 arg15 harg15 x3 x4 x5 xs1 xs2 xs5) (brect 128 1).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 1).toLoadRect)) (arg19.view.readCov (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) (brect 128 1).toLoadRect)⟩, ⟨brect 7 0, k0_pay31 (F := Ideal) (k0_pay22 (arg15.view.readCov (kernelRun0_C.sl.HS5_12 (F := Ideal) c arg4 harg4 arg5 harg5 arg6 harg6 arg10 arg11 harg11 arg12 harg12 arg15 harg15 x3 x4 x5 xs1 xs2 xs5) (brect 128 0).toLoadRect)) (k0_pay27 (arg15.view.readCov (kernelRun0_C.sl.HS5_12 (F := Ideal) c arg4 harg4 arg5 harg5 arg6 harg6 arg10 arg11 harg11 arg12 harg12 arg15 harg15 x3 x4 x5 xs1 xs2 xs5) (brect 128 0).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 0).toLoadRect)) (arg19.view.readCov (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) (brect 128 0).toLoadRect)⟩] := by
  unfold kernelRun0_C; dsimp only
  refine congr (congrArg List.cons (congrArg (Sigma.mk _) ?_)) (congr (congrArg List.cons (congrArg (Sigma.mk _) ?_)) (congr (congrArg List.cons (congrArg (Sigma.mk _) ?_)) rfl))
  · rfl
  · rfl
  · rfl

/-- The stores the results are read from are those that stay in scratch 5. -/
theorem lastC_5 (c : Dev nD) (hc0 : ¬cond0_0 i) (hc1 : cond0_1 i) :
    View.canon (kernelRun0_C.sl.HS5_12 (F := Ideal) c arg4 harg4 arg5 harg5 arg6 harg6 arg10 arg11 harg11 arg12 harg12 arg15 harg15 x3 x4 x5 xs1 xs2 xs5) = sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 := by
  unfold sout0_C_5
  rw [View.read_writes_junk_eq_canon]; rfl

/-- The stores the results are read from are those that stay in scratch 6. -/
theorem lastC_6 (c : Dev nD) (hc0 : ¬cond0_0 i) (hc1 : cond0_1 i) :
    View.canon (kernelRun0_C.sl.HS6_12 (F := Ideal) c arg4 harg4 arg5 harg5 arg6 harg6 arg10 arg11 harg11 arg12 harg12 arg15 harg15 arg16 harg16 x3 x4 x5 xs1 xs2 xs5 xs6) = sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 := by
  unfold sout0_C_6
  rw [View.read_writes_junk_eq_canon]; rfl

/-- The stores the results are read from are those that stay in scratch 7. -/
theorem lastC_7 (c : Dev nD) (hc0 : ¬cond0_0 i) (hc1 : cond0_1 i) :
    View.canon (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) = sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 := by
  unfold sout0_C_7
  rw [View.read_writes_junk_eq_canon]; rfl

/-- The stores the results are read from are those that stay in scratch 8. -/
theorem lastC_8 (c : Dev nD) (hc0 : ¬cond0_0 i) (hc1 : cond0_1 i) :
    View.canon (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) = sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 := by
  unfold sout0_C_8
  rw [View.read_writes_junk_eq_canon]; rfl

/-- The stores the results are read from are those that stay in scratch 9. -/
theorem lastC_9 (c : Dev nD) (hc0 : ¬cond0_0 i) (hc1 : cond0_1 i) :
    View.canon (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) = sout0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 := by
  unfold sout0_C_9
  rw [View.read_writes_junk_eq_canon]; rfl

/-- The value of result 0 after the last grid point. -/
theorem Inv.out_6 (c : Dev nD) (hc0 : ¬cond0_0 i) (hc1 : cond0_1 i) (hT : ∀ R k, T R k < 49152)
    (h : Inv X C T U 384 xs1 xs2 xs3 xs4 (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9)) (b : Fin 3) (s : Fin 128) :
    out0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 (ix2 b s) = ((ent (entries U (brow b s)) : ℝ) : EReal) := by
  unfold out0_C_6
  rw [View.read_writes_junk_eq_canon, outC_6]
  refine (canon_ones (e := .f32) (fun b => k0_pay29 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 b).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 b).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 b).toLoadRect)) b s).trans ?_
  have r5 := (readCov_batch (e := .f32) arg15 (kernelRun0_C.sl.HS5_12 (F := Ideal) c arg4 harg4 arg5 harg5 arg6 harg6 arg10 arg11 harg11 arg12 harg12 arg15 harg15 x3 x4 x5 xs1 xs2 xs5) b).trans (congrArg (batch · b) (lastC_5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r6 := (readCov_batch (e := .f32) arg16 (kernelRun0_C.sl.HS6_12 (F := Ideal) c arg4 harg4 arg5 harg5 arg6 harg6 arg10 arg11 harg11 arg12 harg12 arg15 harg15 arg16 harg16 x3 x4 x5 xs1 xs2 xs5 xs6) b).trans (congrArg (batch · b) (lastC_6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r7 := (readCov_batch (e := .f32) arg17 (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) b).trans (congrArg (batch · b) (lastC_7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  exact (congr (congr (congrArg (fun x y z => k0_pay29 (F := Ideal) x y z (ix2 0 s)) r5) r6) r7).trans (h.ent_eq b s)

/-- The value of result 1 after the last grid point. -/
theorem Inv.out_7 (c : Dev nD) (hc0 : ¬cond0_0 i) (hc1 : cond0_1 i) (hT : ∀ R k, T R k < 49152)
    (h : Inv X C T U 384 xs1 xs2 xs3 xs4 (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9)) (b : Fin 3) (s : Fin 128) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 (ix2 b s) = ((varent (entries U (brow b s)) : ℝ) : EReal) := by
  unfold out0_C_7
  rw [View.read_writes_junk_eq_canon, outC_7]
  refine (canon_ones (e := .f32) (fun b => k0_pay30 (F := Ideal) (arg15.view.readCov (kernelRun0_C.sl.HS5_12 (F := Ideal) c arg4 harg4 arg5 harg5 arg6 harg6 arg10 arg11 harg11 arg12 harg12 arg15 harg15 x3 x4 x5 xs1 xs2 xs5) (brect 128 b).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 b).toLoadRect) (arg17.view.readCov (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) (brect 128 b).toLoadRect) (arg18.view.readCov (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) (brect 128 b).toLoadRect)) b s).trans ?_
  have r5 := (readCov_batch (e := .f32) arg15 (kernelRun0_C.sl.HS5_12 (F := Ideal) c arg4 harg4 arg5 harg5 arg6 harg6 arg10 arg11 harg11 arg12 harg12 arg15 harg15 x3 x4 x5 xs1 xs2 xs5) b).trans (congrArg (batch · b) (lastC_5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r6 := (readCov_batch (e := .f32) arg16 (kernelRun0_C.sl.HS6_12 (F := Ideal) c arg4 harg4 arg5 harg5 arg6 harg6 arg10 arg11 harg11 arg12 harg12 arg15 harg15 arg16 harg16 x3 x4 x5 xs1 xs2 xs5 xs6) b).trans (congrArg (batch · b) (lastC_6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r7 := (readCov_batch (e := .f32) arg17 (kernelRun0_C.sl.HS7_12 (F := Ideal) c arg4 harg4 arg5 harg5 arg6 harg6 arg10 arg11 harg11 arg12 harg12 arg15 harg15 arg16 harg16 arg17 harg17 x3 x4 x5 xs1 xs2 xs5 xs6 xs7) b).trans (congrArg (batch · b) (lastC_7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r8 := (readCov_batch (e := .f32) arg18 (kernelRun0_C.sl.HS8_12 (F := Ideal) c arg4 harg4 arg5 harg5 arg6 harg6 arg10 arg11 harg11 arg12 harg12 arg15 harg15 arg16 harg16 arg17 harg17 arg18 harg18 x3 x4 x5 xs1 xs2 xs5 xs6 xs7 xs8) b).trans (congrArg (batch · b) (lastC_8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  exact (congr (congr (congr (congrArg (fun x y z w => k0_pay30 (F := Ideal) x y z w (ix2 0 s)) r5) r6) r7) r8).trans (h.var_eq b s)

/-- The value of result 2 after the last grid point. -/
theorem Inv.out_8 (c : Dev nD) (hc0 : ¬cond0_0 i) (hc1 : cond0_1 i) (hT : ∀ R k, T R k < 49152)
    (h : Inv X C T U 384 xs1 xs2 xs3 xs4 (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9) (sout0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9)) (b : Fin 3) (s : Fin 128) (k : Fin 7) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 xs1 xs2 xs3 xs4 xs5 xs6 xs7 xs8 xs9 (ix2 (brow b s) k) = ((logp (entries U (brow b s)) (place (T (brow b s) k) (hT _ _)) : ℝ) : EReal) := by
  unfold out0_C_8
  rw [View.read_writes_junk_eq_canon, outC_8]
  refine (canon_batches (e := .f32) 7 (fun b => k0_pay31 (F := Ideal) (k0_pay22 (arg15.view.readCov (kernelRun0_C.sl.HS5_12 (F := Ideal) c arg4 harg4 arg5 harg5 arg6 harg6 arg10 arg11 harg11 arg12 harg12 arg15 harg15 x3 x4 x5 xs1 xs2 xs5) (brect 128 b).toLoadRect)) (k0_pay27 (arg15.view.readCov (kernelRun0_C.sl.HS5_12 (F := Ideal) c arg4 harg4 arg5 harg5 arg6 harg6 arg10 arg11 harg11 arg12 harg12 arg15 harg15 x3 x4 x5 xs1 xs2 xs5) (brect 128 b).toLoadRect) (arg16.view.readCov (kernelRun0_C.sl.HS6_12 (F := Ideal) c arg4 harg4 arg5 harg5 arg6 harg6 arg10 arg11 harg11 arg12 harg12 arg15 harg15 arg16 harg16 x3 x4 x5 xs1 xs2 xs5 xs6) (brect 128 b).toLoadRect)) (arg19.view.readCov (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) (brect 128 b).toLoadRect)) b s k).trans ?_
  have r5 := (readCov_batch (e := .f32) arg15 (kernelRun0_C.sl.HS5_12 (F := Ideal) c arg4 harg4 arg5 harg5 arg6 harg6 arg10 arg11 harg11 arg12 harg12 arg15 harg15 x3 x4 x5 xs1 xs2 xs5) b).trans (congrArg (batch · b) (lastC_5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r6 := (readCov_batch (e := .f32) arg16 (kernelRun0_C.sl.HS6_12 (F := Ideal) c arg4 harg4 arg5 harg5 arg6 harg6 arg10 arg11 harg11 arg12 harg12 arg15 harg15 arg16 harg16 x3 x4 x5 xs1 xs2 xs5 xs6) b).trans (congrArg (batch · b) (lastC_6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  have r9 := (readCov_batch (e := .f32) arg19 (kernelRun0_C.sl.HS9_12 (F := Ideal) c i arg4 harg4 arg5 harg5 arg6 harg6 arg10 arg11 harg11 arg12 harg12 arg13 harg13 arg14 harg14 arg19 harg19 x3 x4 x5 xs1 xs2 xs3 xs4 xs9) b).trans (congrArg (batch · b) (lastC_9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 xs1 xs2 xs3 xs4 xs5 xs6 xs7 xs8 xs9 c hc0 hc1))
  exact (congr (congr (congrArg (fun x y z => k0_pay31 (F := Ideal) (k0_pay22 x) (k0_pay27 x y) z (ix2 s k)) r5) r6) r9).trans (h.logp_eq hT b s k)

end Cert.KernelIdeal.Step
-- ==== Proof.Fold.lean ====
module

public import proofs.«01_k».proof.Proof.Inputs
public import proofs.«01_k».proof.Proof.FinalOut
public import proofs.«01_k».proof.Proof.Gen.KernelIdeal.Value

@[expose] public section

set_option maxRecDepth 16384
set_option maxHeartbeats 1000000

noncomputable section

/-! # The state after every grid point, and the three results -/

namespace Cert.KernelIdeal.Step

open Idealize.ShloMosaic Idealize.ShloMosaic.TcCoe Idealize.SL.Sem
open Cert.KernelIdeal Cert.KernelIdeal.Gen Cert.SoftmaxMath

/-- The batch of a row. -/
def bOf (R : Fin 384) : Fin 3 := ⟨R.val / 128, by omega⟩
/-- The position of a row in its batch. -/
def sOf (R : Fin 384) : Fin 128 := ⟨R.val % 128, Nat.mod_lt _ (by decide)⟩

theorem bOf_brow (b : Fin 3) (s : Fin 128) : bOf (brow b s) = b := by
  apply Fin.ext; show (128 * b.val + s.val) / 128 = b.val; omega
theorem sOf_brow (b : Fin 3) (s : Fin 128) : sOf (brow b s) = s := by
  apply Fin.ext; show (128 * b.val + s.val) % 128 = s.val; omega

variable (m : (ℓ : Loc nD τ sig) → Buf (Elt Ideal) ℓ) (c : Dev nD)

/-- The real logit over `ln 2` of vocabulary entry `v` at position `s` of batch `b`, from the arguments in memory. -/
def yOf (b : Fin 3) (s : Fin 128) (v : Fin 49152) : ℝ :=
  yReal (m ((c : Thread nD τ).loc main_arg0) : FVec Ideal S3x128x7168 .fp8e4m3)
    (m ((c : Thread nD τ).loc main_arg1) : FVec Ideal S3x128 .f32)
    (m ((c : Thread nD τ).loc main_arg2) : FVec Ideal S49152x7168 .fp8e4m3)
    (m ((c : Thread nD τ).loc main_arg3) : FVec Ideal S49152 .f32)
    (m ((c : Thread nD τ).loc main_arg5) : FVec Ideal S3x128 .f32) b s v

/-- A row's activation scale over 30. -/
def rowX (R : Fin 384) : EReal :=
  @HMul.hMul EReal EReal EReal _ ((m ((c : Thread nD τ).loc main_arg1) : FVec Ideal S3x128 .f32) (ix2 (bOf R) (sOf R)))
    ((1 / 30 : ℝ) : EReal)
/-- A row's factor of the capped values. -/
def rowC (R : Fin 384) : EReal :=
  Ideal.div ((30 * (Real.log 2)⁻¹ : ℝ) : EReal) ((m ((c : Thread nD τ).loc main_arg5) : FVec Ideal S3x128 .f32) (ix2 (bOf R) (sOf R)))
/-- A row's targets. -/
def rowT (R : Fin 384) (k : Fin 7) : ℕ :=
  ((m ((c : Thread nD τ).loc main_arg4) : IVec S3x128x7 32) (ix3 (bOf R) (sOf R) k)).toNat
/-- A row's logits over `ln 2`, in chunks of 128 lanes. -/
def rowU (R : Fin 384) (n : ℕ) (l : Fin 128) : ℝ :=
  if h : n < 384 then yOf m c (bOf R) (sOf R) (chunks (⟨n, h⟩, l)) else 0

/-- No temperature is zero. -/
def TempOk : Prop := ∀ b s, (m ((c : Thread nD τ).loc main_arg5) : FVec Ideal S3x128 .f32) (ix2 b s) ≠ (0 : EReal)

/-- The blocks a grid point reads give its four chunks of logits. -/
theorem blocks (h5 : TempOk m c) (t : Fin cfg0.N) :
    Blocks (iblk m c 3 t) (iblk m c 4 t) (iblk m c 5 t) (rowX m c) (rowC m c) (rowU m c) (4 * t.val) := by
  intro R j l
  obtain ⟨b, s, rfl⟩ := exists_brow R
  have ht : t.val < 96 := Nat.lt_of_lt_of_eq t.isLt N_0
  have hn : 4 * t.val + j.val < 384 := by have := j.isLt; omega
  have hv : chunks (⟨4 * t.val + j.val, hn⟩, l) = voc t (col j l) := by
    apply Fin.ext
    show 128 * (4 * t.val + j.val) + l.val = 512 * t.val + (128 * j.val + l.val)
    omega
  have hU : rowU m c (brow b s) (4 * t.val + j.val) l = yOf m c b s (voc t (col j l)) := by
    unfold rowU
    rw [dif_pos hn, bOf_brow, sOf_brow, hv]
  have hsum : (∑ k : Fin 7168, @HMul.hMul EReal EReal EReal _ (iblk m c 3 t (ix2 (brow b s) k : S384x7168.Idx))
        (iblk m c 5 t (ix2 (col j l) k : S512x7168.Idx)))
      = ∑ k : Fin 7168, @HMul.hMul EReal EReal EReal _ ((m ((c : Thread nD τ).loc main_arg0) : FVec Ideal S3x128x7168 .fp8e4m3) (ix3 b s k))
        ((m ((c : Thread nD τ).loc main_arg2) : FVec Ideal S49152x7168 .fp8e4m3) (ix2 (voc t (col j l)) k)) :=
    Finset.sum_congr rfl fun k _ =>
      congr (congrArg (@HMul.hMul EReal EReal EReal _) (iblk_3 m c t b s k)) (iblk_5 m c t (col j l) k)
  refine Eq.trans ?_ (congrArg (fun r : ℝ => (r : EReal)) hU.symm)
  refine Eq.trans ?_ (ylog_real _ _ _ (h5 b s))
  unfold rowX rowC ylog
  rw [bOf_brow, sOf_brow]
  exact congrArg (fun z => Ideal.tanh z * _) (congr (congrArg _ (congrArg (· * _) hsum)) (iblk_4 m c t (col j l)))

/-- What the scratch buffers hold after the chunks before `N`. -/
abbrev After (N : ℕ) (p : Vec Ideal S3x128 .f32 × Vec Ideal S3x128 .f32 × Vec Ideal S384x7 .f32 × Vec Ideal S384x128 .f32
    × Vec Ideal S384x128 .f32 × Vec Ideal S384x128 .i32 × Vec Ideal S384x128 .i32 × Vec Ideal S384x128 .f32 × Vec Ideal S384x128 .f32
    × Vec Ideal S384x128 .f32 × Vec Ideal S384x128 .f32 × Vec Ideal S384x128 .f32) : Prop :=
  Inv (rowX m c) (rowC m c) (rowT m c) (rowU m c) N p.2.2.2.1 p.2.2.2.2.1 p.2.2.2.2.2.1 p.2.2.2.2.2.2.1 p.2.2.2.2.2.2.2.1
    p.2.2.2.2.2.2.2.2.1 p.2.2.2.2.2.2.2.2.2.1 p.2.2.2.2.2.2.2.2.2.2.1 p.2.2.2.2.2.2.2.2.2.2.2

/-- The state names its number of chunks. -/
theorem Inv.recount {X C : Fin 384 → EReal} {T : Fin 384 → Fin 7 → ℕ} {U : Fin 384 → ℕ → Fin 128 → ℝ} {N N' : ℕ} (e : N = N')
    {x1 x2 : Vec Ideal S384x128 .f32} {x3 x4 : Vec Ideal S384x128 .i32} {x5 x6 x7 x8 x9 : Vec Ideal S384x128 .f32}
    (h : Inv X C T U N x1 x2 x3 x4 x5 x6 x7 x8 x9) : Inv X C T U N' x1 x2 x3 x4 x5 x6 x7 x8 x9 := by
  subst e; exact h

variable (h5 : TempOk m c) (hT : ∀ R k, rowT m c R k < 49152)
include h5 hT

/-- The first grid point. -/
theorem after_first (t : Fin cfg0.N) (h0 : t.val % 96 = 0) (h1 : ¬t.val % 96 = 95) (ht : t.val = 0) :
    After m c 4 (outsAt0 m c t.val t.isLt) := by
  rw [outsAt0_A m c t h0 h1]
  have hb := blocks m c h5 t
  rw [ht] at hb
  exact Inv.stepA (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) c ((hcond0_0 t).mpr h0) (fun h => h1 ((hcond0_1 t).mp h)) ((coords_zero t).trans ht)
    (fun b s => by unfold rowX; rw [bOf_brow, sOf_brow, iblk_0])
    (fun b s => by unfold rowC; rw [bOf_brow, sOf_brow, iblk_1])
    (fun R k => by
      obtain ⟨b, s, rfl⟩ := exists_brow R
      unfold rowT; rw [bOf_brow, sOf_brow]; exact congrArg BitVec.toNat (iblk_2 m c t b s k).symm)
    hb hT

/-- A grid point in the middle. -/
theorem after_middle (t : Fin cfg0.N) (h0 : ¬t.val % 96 = 0) (h1 : ¬t.val % 96 = 95)
    (ih : After m c (4 * t.val) (outsAt0 m c (t.val - 1) (Nat.lt_of_le_of_lt (Nat.sub_le _ _) t.isLt))) :
    After m c (4 * t.val + 4) (outsAt0 m c t.val t.isLt) := by
  have ht : t.val < 96 := Nat.lt_of_lt_of_eq t.isLt N_0
  rw [outsAt0_B m c t h0 h1]
  have e := coords_zero t
  have hb := blocks m c h5 t
  rw [← e] at hb
  exact Inv.recount (congrArg (fun n => 4 * n + 4) e) (Inv.stepB (X := rowX m c) (C := rowC m c) (T := rowT m c) (U := rowU m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 c (fun h => h0 ((hcond0_0 t).mp h)) (fun h => h1 ((hcond0_1 t).mp h)) (Inv.recount (congrArg (4 * ·) e.symm) ih) hb (by omega) hT)

/-- The last grid point. -/
theorem after_last (t : Fin cfg0.N) (h0 : ¬t.val % 96 = 0) (h1 : t.val % 96 = 95)
    (ih : After m c (4 * t.val) (outsAt0 m c (t.val - 1) (Nat.lt_of_le_of_lt (Nat.sub_le _ _) t.isLt))) :
    After m c (4 * t.val + 4) (outsAt0 m c t.val t.isLt) := by
  have ht : t.val < 96 := Nat.lt_of_lt_of_eq t.isLt N_0
  rw [outsAt0_C m c t h0 h1]
  have e := coords_zero t
  have hb := blocks m c h5 t
  rw [← e] at hb
  exact Inv.recount (congrArg (fun n => 4 * n + 4) e) (Inv.stepC (X := rowX m c) (C := rowC m c) (T := rowT m c) (U := rowU m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 c (fun h => h0 ((hcond0_0 t).mp h)) ((hcond0_1 t).mpr h1) (Inv.recount (congrArg (4 * ·) e.symm) ih) hb (by omega) hT)

/-- After grid point `n` the scratch buffers hold the state of the first `4 n + 4` chunks. -/
theorem after_all : ∀ (n : ℕ) (hn : n < cfg0.N), After m c (4 * n + 4) (outsAt0 m c n hn)
  | 0, hn => after_first m c h5 hT ⟨0, hn⟩ rfl (by show ¬0 % 96 = 95; decide) rfl
  | n + 1, hn => by
    have ht : n + 1 < 96 := Nat.lt_of_lt_of_eq hn N_0
    have ih := after_all n (Nat.lt_of_succ_lt hn)
    by_cases h1 : (n + 1) % 96 = 95
    · exact after_last m c h5 hT ⟨n + 1, hn⟩ (by show ¬(n + 1) % 96 = 0; omega) h1 ih
    · exact after_middle m c h5 hT ⟨n + 1, hn⟩ (by show ¬(n + 1) % 96 = 0; omega) h1 ih

omit h5 hT in
/-- The chunks of a row are the vocabulary, renumbered. -/
theorem entries_eq (b : Fin 3) (s : Fin 128) : entries (rowU m c) (brow b s) = fun p => yOf m c b s (chunks p) := by
  funext p
  unfold entries rowU
  rw [dif_pos p.1.isLt, bOf_brow, sOf_brow]

/-- The entropies at the last grid point. -/
theorem last_ent (t : Fin cfg0.N) (h0 : ¬t.val % 96 = 0) (h1 : t.val % 96 = 95) (b : Fin 3) (s : Fin 128) :
    (outsAt0 m c t.val t.isLt).1 (ix2 b s) = ((ent (yOf m c b s) : ℝ) : EReal) := by
  have ht : t.val < 96 := Nat.lt_of_lt_of_eq t.isLt N_0
  have h := Inv.recount (by omega : 4 * t.val + 4 = 384) (after_all m c h5 hT t.val t.isLt)
  rw [outsAt0_C m c t h0 h1] at h ⊢
  refine Eq.trans (Inv.out_6 (X := rowX m c) (C := rowC m c) (T := rowT m c) (U := rowU m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 c (fun h => h0 ((hcond0_0 t).mp h)) ((hcond0_1 t).mpr h1) hT h b s) ?_
  rw [entries_eq, ent_equiv]

/-- The varentropies at the last grid point. -/
theorem last_varent (t : Fin cfg0.N) (h0 : ¬t.val % 96 = 0) (h1 : t.val % 96 = 95) (b : Fin 3) (s : Fin 128) :
    (outsAt0 m c t.val t.isLt).2.1 (ix2 b s) = ((varent (yOf m c b s) : ℝ) : EReal) := by
  have ht : t.val < 96 := Nat.lt_of_lt_of_eq t.isLt N_0
  have h := Inv.recount (by omega : 4 * t.val + 4 = 384) (after_all m c h5 hT t.val t.isLt)
  rw [outsAt0_C m c t h0 h1] at h ⊢
  refine Eq.trans (Inv.out_7 (X := rowX m c) (C := rowC m c) (T := rowT m c) (U := rowU m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 c (fun h => h0 ((hcond0_0 t).mp h)) ((hcond0_1 t).mpr h1) hT h b s) ?_
  rw [entries_eq, varent_equiv]

/-- The target log-probabilities at the last grid point. -/
theorem last_logp (t : Fin cfg0.N) (h0 : ¬t.val % 96 = 0) (h1 : t.val % 96 = 95) (b : Fin 3) (s : Fin 128) (k : Fin 7) :
    (outsAt0 m c t.val t.isLt).2.2.1 (ix2 (brow b s) k)
        = ((logp (yOf m c b s) ⟨rowT m c (brow b s) k, hT _ _⟩ : ℝ) : EReal) := by
  have ht : t.val < 96 := Nat.lt_of_lt_of_eq t.isLt N_0
  have h := Inv.recount (by omega : 4 * t.val + 4 = 384) (after_all m c h5 hT t.val t.isLt)
  rw [outsAt0_C m c t h0 h1] at h ⊢
  refine Eq.trans (Inv.out_8 (X := rowX m c) (C := rowC m c) (T := rowT m c) (U := rowU m c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 c (fun h => h0 ((hcond0_0 t).mp h)) ((hcond0_1 t).mpr h1) hT h b s k) ?_
  rw [entries_eq, logp_equiv]
  have hp : chunks (place (rowT m c (brow b s) k) (hT _ _)) = ⟨rowT m c (brow b s) k, hT _ _⟩ := by
    apply Fin.ext
    show 128 * (rowT m c (brow b s) k / 128) + rowT m c (brow b s) k % 128 = rowT m c (brow b s) k
    omega
  rw [hp]

/-- The last grid point. -/
abbrev lastPt : Fin cfg0.N := ⟨95, lt_of_lt_of_eq (by decide) N_0.symm⟩

/-- The entropies the kernel leaves. -/
theorem final_ent (b : Fin 3) (s : Fin 128) : Value.G6 m c (ix2 b s : S3x128.Idx) = ((ent (yOf m c b s) : ℝ) : EReal) := by
  rw [Value.G6_last, ← Value.outsAt0_sweep]
  exact last_ent m c h5 hT lastPt (by decide) (by decide) b s

/-- The varentropies the kernel leaves. -/
theorem final_var (b : Fin 3) (s : Fin 128) : Value.G7 m c (ix2 b s : S3x128.Idx) = ((varent (yOf m c b s) : ℝ) : EReal) := by
  rw [Value.G7_last, ← Value.outsAt0_sweep]
  exact last_varent m c h5 hT lastPt (by decide) (by decide) b s

/-- The target log-probabilities the kernel leaves. -/
theorem final_logp (b : Fin 3) (s : Fin 128) (k : Fin 7) : Value.G8 m c (ix2 (brow b s) k : S384x7.Idx)
    = ((logp (yOf m c b s) ⟨rowT m c (brow b s) k, hT _ _⟩ : ℝ) : EReal) := by
  rw [Value.G8_last, ← Value.outsAt0_sweep]
  exact last_logp m c h5 hT lastPt (by decide) (by decide) b s k

end Cert.KernelIdeal.Step
-- ==== Proof.Pre.lean ====
module

public import proofs.«01_k».proof.Defs
public import Idealize.ShloMosaic.Lib.Pointwise

@[expose] public section

noncomputable section

/-! # What the precondition says

Every target names a vocabulary entry, and no temperature is zero. -/

namespace Cert.PreRead

open Idealize.ShloMosaic Cert.Pre_meaningful

/-- The side conditions of the precondition's operations. -/
theorem facts : Cert.Pre_meaningful.Facts where
  bcast_S_S3x128x7 := by decide
  bcast_S_S3x128 := by decide
  bcast_S3x128_S3x128x1_0_1 := by decide
  bcast_S3x128x1_S3x128x7_0_1_2 := by decide

/-- The precondition, entry by entry. -/
theorem fn_apply [Cert.Pre_meaningful.Facts] (a0 : FVec Ideal S3x128x7168 .fp8e4m3) (a1 : FVec Ideal S3x128 .f32)
    (a2 : FVec Ideal S49152x7168 .fp8e4m3) (a3 : FVec Ideal S49152 .f32) (a4 : IVec S3x128x7 32) (a5 : FVec Ideal S3x128 .f32)
    (b : Fin 3) (s : Fin 128) (k : Fin 7) :
    fn (F := Ideal) a0 a1 a2 a3 a4 a5 (ix3 b s k)
      = IntOp.andi (IntOp.andi (IntOp.cmpi .sge (a4 (ix3 b s k)) 0#32) (IntOp.cmpi .slt (a4 (ix3 b s k)) 49152#32))
          (Ideal.cmp .une (a5 (ix2 b s)) (Ideal.ofBits .f32 0#32)) := by
  unfold fn
  pointwise
  try rfl

/-- A one-bit conjunction is one only if both its sides are. -/
theorem andi_one : ∀ x y : BitVec 1, IntOp.andi x y = 1#1 → x = 1#1 ∧ y = 1#1 := by decide

/-- A test that gives one is true. -/
theorem of_ofBool {p : Prop} [Decidable p] (h : BitVec.ofBool (decide p) = 1#1) : p := by
  by_contra hp
  rw [decide_eq_false hp] at h
  exact absurd h (by decide)

variable [Cert.Pre_meaningful.Facts] {a0 : FVec Ideal S3x128x7168 .fp8e4m3} {a1 : FVec Ideal S3x128 .f32}
  {a2 : FVec Ideal S49152x7168 .fp8e4m3} {a3 : FVec Ideal S49152 .f32} {a4 : IVec S3x128x7 32} {a5 : FVec Ideal S3x128 .f32}
  (h : fn (F := Ideal) a0 a1 a2 a3 a4 a5 = fun _ => 1#1)
include h

/-- Every target names a vocabulary entry. -/
theorem target_lt (b : Fin 3) (s : Fin 128) (k : Fin 7) : (a4 (ix3 b s k)).toNat < 49152 := by
  have e := (fn_apply a0 a1 a2 a3 a4 a5 b s k).symm.trans (congrFun h _)
  obtain ⟨h1, h2⟩ := andi_one _ _ (andi_one _ _ e).1
  have g1 : (0 : ℤ) ≤ (a4 (ix3 b s k)).toInt := of_ofBool h1
  have g2 : (a4 (ix3 b s k)).toInt < 49152 := of_ofBool h2
  rw [BitVec.toInt_eq_toNat_cond] at g1 g2
  split at g1 <;> omega

/-- No temperature is zero. -/
theorem temp_ne (b : Fin 3) (s : Fin 128) : a5 (ix2 b s) ≠ (0 : EReal) := by
  have e := (fn_apply a0 a1 a2 a3 a4 a5 b s 0).symm.trans (congrFun h _)
  have g : a5 (ix2 b s) ≠ Ideal.ofBits .f32 0#32 := of_ofBool (andi_one _ _ e).2
  intro h0
  exact g (h0.trans (by simp [Ideal.ofBits, Ideal.ieee]))

end Cert.PreRead
-- ==== Proof.RefTail.lean ====
/- The host operations of the reference after its product, read: what each stretch of them leaves in the arrays the next
   stretch reads, as one term over the arrays it starts from. -/
module

public import proofs.«01_k».proof.Proof.Gen.ReferenceIdeal.Frame
public import Idealize.ShloMosaic.Lib.StableHlo.RunRead
public import Idealize.ShloMosaic.PureOps.Ideal

@[expose] public section

noncomputable section

namespace Cert.RefTail

open Idealize.ShloMosaic Idealize.ShloMosaic.TcCoe Idealize.SL.Sem
open Cert.ReferenceIdeal Cert.ReferenceIdeal.Gen

/-- The logits: the product, scaled by rows and by columns, soft-capped and divided by the temperature. -/
def logits (z : FVec Ideal S384x49152 .f32) (xs : FVec Ideal S3x128 .f32) (w : FVec Ideal S49152 .f32)
    (T : FVec Ideal S3x128 .f32) : FVec Ideal S3x128x49152 .f32 :=
  Host.divf
    (mulf (broadcastInDim S3x128x49152 ![] bcast_S_S3x128x49152 (constant S_ .f32 0x41F00000#32))
      (Host.tanh (Host.divf
        (mulf
          (mulf (shapeCast S3x128x49152 z shapeCasts_S384x49152_S3x128x49152)
            (broadcastInDim S3x128x49152 ![0, 1, 2] bcast_S3x128x1_S3x128x49152_0_1_2
              (broadcastInDim S3x128x1 ![0, 1] bcast_S3x128_S3x128x1_0_1 xs)))
          (broadcastInDim S3x128x49152 ![0, 1, 2] bcast_S1x1x49152_S3x128x49152_0_1_2
            (broadcastInDim S1x1x49152 ![2] bcast_S49152_S1x1x49152_2 w)))
        (broadcastInDim S3x128x49152 ![] bcast_S_S3x128x49152 (constant S_ .f32 0x41F00000#32)))))
    (broadcastInDim S3x128x49152 ![0, 1, 2] bcast_S3x128x1_S3x128x49152_0_1_2
      (broadcastInDim S3x128x1 ![0, 1] bcast_S3x128_S3x128x1_0_1 T))

theorem read_logits (V : Valuation τ sig (Elt Ideal)) :
    StableHlo.after hostOps1 V (Proc.devRef .tc main_v16)
      = logits (V (Proc.devRef .tc main_v1)) (V (Proc.devRef .tc main_arg1)) (V (Proc.devRef .tc main_arg3))
          (V (Proc.devRef .tc main_arg5)) := by
  after_reads_simp
  rfl

/-- The logits minus their row's maximum. -/
def shifted (a : FVec Ideal S3x128x49152 .f32) : FVec Ideal S3x128x49152 .f32 :=
  subf a (broadcastInDim S3x128x49152 ![0, 1, 2] bcast_S3x128x1_S3x128x49152_0_1_2
    (broadcastInDim S3x128x1 ![0, 1] bcast_S3x128_S3x128x1_0_1
      (maximumf (broadcastInDim S3x128 ![] bcast_S_S3x128 (constant S_ .f32 0xFF800000#32))
        (Host.reduce FloatOps.maximumf a (constant S_ .f32 0xFF800000#32) reducesTo_S3x128x49152_S3x128_d2 h_S_))))

/-- The log-probabilities: the logits minus their row's maximum minus the logarithm of the sum of the exponentials. -/
def logps (a : FVec Ideal S3x128x49152 .f32) : FVec Ideal S3x128x49152 .f32 :=
  subf (shifted a) (broadcastInDim S3x128x49152 ![0, 1, 2] bcast_S3x128x1_S3x128x49152_0_1_2
    (Host.log (broadcastInDim S3x128x1 ![0, 1] bcast_S3x128_S3x128x1_0_1
      (Host.reduceAdd (Host.exp (shifted a)) (constant S_ .f32 0x00000000#32) reducesTo_S3x128x49152_S3x128_d2 h_S_))))

theorem read_logps (V : Valuation τ sig (Elt Ideal)) :
    StableHlo.after hostOps1_1 V (Proc.devRef .tc main_v17) = logps (V (Proc.devRef .tc main_v16)) := by
  after_reads_simp
  generalize V (Proc.devRef .tc main_v16) = a
  simp only [StableHlo.TRef.ofBuf_toBuf]
  unfold logps shifted
  rfl

/-- The entropies of the rows with these log-probabilities. -/
def ents (l : FVec Ideal S3x128x49152 .f32) : FVec Ideal S3x128 .f32 :=
  Host.negf (Host.reduceAdd (mulf (Host.exp l) l) (constant S_ .f32 0x00000000#32) reducesTo_S3x128x49152_S3x128_d2 h_S_)

/-- The log-probabilities plus their row's entropy. -/
def centred (l : FVec Ideal S3x128x49152 .f32) : FVec Ideal S3x128x49152 .f32 :=
  addf l (broadcastInDim S3x128x49152 ![0, 1, 2] bcast_S3x128x1_S3x128x49152_0_1_2
    (broadcastInDim S3x128x1 ![0, 1] bcast_S3x128_S3x128x1_0_1 (ents l)))

/-- The varentropies of the rows with these log-probabilities. -/
def varents (l : FVec Ideal S3x128x49152 .f32) : FVec Ideal S3x128 .f32 :=
  Host.reduceAdd (mulf (Host.exp l) (mulf (centred l) (centred l))) (constant S_ .f32 0x00000000#32)
    reducesTo_S3x128x49152_S3x128_d2 h_S_

theorem read_ents (V : Valuation τ sig (Elt Ideal)) :
    StableHlo.after hostOps1_2 V (Proc.devRef .tc main_v21) = ents (V (Proc.devRef .tc main_v17)) := by
  after_reads_simp
  rfl

theorem read_varents (V : Valuation τ sig (Elt Ideal)) :
    StableHlo.after hostOps1_2 V (Proc.devRef .tc main_v27) = varents (V (Proc.devRef .tc main_v17)) := by
  after_reads_simp
  rfl

/-- The target indices, a negative one counted from the end. -/
def wrapped (t : IVec S3x128x7 32) : IVec S3x128x7x1 32 :=
  shapeCast S3x128x7x1 (select (cmpi .slt t (broadcastInDim S3x128x7 ![] bcast_S_S3x128x7 (constantI S_ 32 0#32)))
    (addi t (broadcastInDim S3x128x7 ![] bcast_S_S3x128x7 (constantI S_ 32 49152#32))) t)
    shapeCasts_S3x128x7_S3x128x7x1

/-- Which target indices name a vocabulary entry. -/
def named (t : IVec S3x128x7 32) : IVec S3x128x7 1 :=
  Host.reduce IntOp.andi
    (andi (cmpi .sge (wrapped t) (broadcastInDim S3x128x7x1 ![] bcast_S_S3x128x7x1 (constantI S_ 32 0#32)))
      (cmpi .sle (wrapped t) (broadcastInDim S3x128x7x1 ![0, 1, 2, 3] bcast_S1x1x1x1_S3x128x7x1_0_1_2_3
        (broadcastInDim S1x1x1x1 ![3] bcast_S1_S1x1x1x1_3 (constantI S1 32 49151#32)))))
    (constantI S_ 1 1#1) reducesTo_S3x128x7x1_S3x128x7_d3 h_S_

/-- The log-probabilities at the targets. -/
def picked (l : FVec Ideal S3x128x49152 .f32) (t : IVec S3x128x7 32) : FVec Ideal S3x128x7 .f32 :=
  select (named t) (Host.gather gather_S3x128x49152_S3x128x7x1_S3x128x7_n_2_01_01_2_3_111 l (wrapped t))
    (broadcastInDim S3x128x7 ![] bcast_S_S3x128x7 (constant S_ .f32 0x7FC00000#32))

theorem read_picked (V : Valuation τ sig (Elt Ideal)) :
    StableHlo.after hostOps1_3 V (Proc.devRef .tc main_v28)
      = picked (V (Proc.devRef .tc main_v17)) (V (Proc.devRef .tc main_arg4)) := by
  after_reads_simp
  rfl

theorem read_reshaped (V : Valuation τ sig (Elt Ideal)) :
    StableHlo.after hostOps1_4 V (Proc.devRef .tc main_v29)
      = shapeCast S384x7 (V (Proc.devRef .tc main_v28) : FVec Ideal S3x128x7 .f32) shapeCasts_S3x128x7_S384x7 := by
  after_reads_simp
  rfl

end Cert.RefTail

end
-- ==== Proof.RefRun.lean ====
/- What the reference leaves in its three result arrays: its product region, read, and the host operations after it. -/
module

public import proofs.«01_k».proof.Proof.RefTail
public import Idealize.ShloMosaic.Lib.Pipeline.Value
public import Idealize.ShloMosaic.Lib.Pipeline.FrameSuffix

@[expose] public section

noncomputable section

namespace Cert.RefRun

open Idealize.ShloMosaic Idealize.ShloMosaic.TcCoe Idealize.SL.Sem
open Cert.ReferenceIdeal Cert.ReferenceIdeal.Gen Cert.RefTail

variable (m : (ℓ : Loc nD τ sig) → Buf (Elt Ideal) ℓ) (ρ : Dev nD → PrngReg)

/-- The product of the activations' codes with the weights' codes. -/
def product (x : FVec Ideal S384x7168 .fp8e4m3) (w : FVec Ideal S49152x7168 .fp8e4m3) : FVec Ideal S384x49152 .f32 :=
  k0_pay1 x w

theorem out_eq (x : FVec Ideal S384x7168 .fp8e4m3) (w : FVec Ideal S49152x7168 .fp8e4m3) :
    out0_2 (F := Ideal) x w = product x w := by
  unfold out0_2 product
  rw [View.canon_unit_zero (by funext a; fin_cases a <;> rfl), View.ld_unit_zero (by funext a; fin_cases a <;> rfl),
    View.ld_unit_zero (by funext a; fin_cases a <;> rfl)]

theorem emb_0 (t : Fin cfg0.N) (y : S384x7168.Idx) : ((cfg0.win 0).blk t).view.emb y = y := by
  funext a; apply Fin.ext
  match a with
  | ⟨0, _⟩ => show 0 * 384 + 1 * (y 0).val = (y 0).val; omega
  | ⟨1, _⟩ => show 0 * 7168 + 1 * (y 1).val = (y 1).val; omega

theorem emb_1 (t : Fin cfg0.N) (y : S49152x7168.Idx) : ((cfg0.win 1).blk t).view.emb y = y := by
  funext a; apply Fin.ext
  match a with
  | ⟨0, _⟩ => show 0 * 49152 + 1 * (y 0).val = (y 0).val; omega
  | ⟨1, _⟩ => show 0 * 7168 + 1 * (y 1).val = (y 1).val; omega

theorem emb_2 (t : Fin cfg0.N) (y : S384x49152.Idx) : ((cfg0.win 2).blk t).view.emb y = y := by
  funext a; apply Fin.ext
  match a with
  | ⟨0, _⟩ => show 0 * 384 + 1 * (y 0).val = (y 0).val; omega
  | ⟨1, _⟩ => show 0 * 49152 + 1 * (y 1).val = (y 1).val; omega

theorem iblk_0 (c : Dev nD) (t : Fin cfg0.N) : iblk m c 0 t = V m c main_v0 := by
  funext y
  exact congrArg (V m c main_v0) (emb_0 t y)

theorem iblk_1 (c : Dev nD) (t : Fin cfg0.N) : iblk m c 1 t = V m c main_arg2 := by
  funext y
  exact congrArg (V m c main_arg2) (emb_1 t y)

/-- The product region leaves the product of its two operands in its result. -/
theorem final (c : Dev nD) : (dats m 0 c).arrAt 2 cfg0.N = product (V m c main_v0) (V m c main_arg2) :=
  (dats m 0 c).arrAt_eq_of_cover 2 _
    (fun t _ => by
      show (dats m 0 c).after 2 t = _
      rw [after0_2, iblk_0, iblk_1, out_eq]
      funext y
      exact (congrArg (product (V m c main_v0) (V m c main_arg2)) (emb_2 t y)).symm)
    (fun i => ⟨⟨0, by decide⟩, flush0_2 _, by
      have h := View.emb_mem_set ((cfg0.win 2).blk ⟨0, by decide⟩).view (i : S384x49152.Idx)
      rwa [emb_2] at h⟩)

theorem entry (c : Dev nD) : V m c main_v0
    = shapeCast S384x7168 (m ((c : Thread nD τ).loc main_arg0) : FVec Ideal S3x128x7168 .fp8e4m3)
        shapeCasts_S3x128x7168_S384x7168 := by
  unfold V V0
  simp only [List.flatten_cons, List.flatten_nil, List.append_nil]
  after_reads_simp
  rfl

/-- The log-probabilities the reference computes from its arguments on core `c`. -/
def lp (c : Dev nD) : FVec Ideal S3x128x49152 .f32 :=
  logps (logits
    (product (shapeCast S384x7168 (m ((c : Thread nD τ).loc main_arg0) : FVec Ideal S3x128x7168 .fp8e4m3)
      shapeCasts_S3x128x7168_S384x7168) (m ((c : Thread nD τ).loc main_arg2)))
    (m ((c : Thread nD τ).loc main_arg1)) (m ((c : Thread nD τ).loc main_arg3)) (m ((c : Thread nD τ).loc main_arg5)))

/-- The five stretches of host operations, read at the three results. -/
theorem tail (W : Valuation τ sig (Elt Ideal)) :
    let l := logps (logits (W (Proc.devRef .tc main_v1)) (W (Proc.devRef .tc main_arg1)) (W (Proc.devRef .tc main_arg3))
          (W (Proc.devRef .tc main_arg5)))
    let e := StableHlo.after (List.flatten [hostOps1, hostOps1_1, hostOps1_2, hostOps1_3, hostOps1_4]) W
    e (Proc.devRef .tc main_v21) = ents l ∧ e (Proc.devRef .tc main_v27) = varents l
      ∧ e (Proc.devRef .tc main_v29)
          = shapeCast S384x7 (picked l (W (Proc.devRef .tc main_arg4))) shapeCasts_S3x128x7_S384x7 := by
  intro l e
  have h4 : ∀ U : Valuation τ sig (Elt Ideal), StableHlo.after hostOps1_4 U (Proc.devRef .tc main_v21) = U (Proc.devRef .tc main_v21)
      ∧ StableHlo.after hostOps1_4 U (Proc.devRef .tc main_v27) = U (Proc.devRef .tc main_v27) := fun U => by
    constructor <;> after_reads_simp
  have h3 : ∀ U : Valuation τ sig (Elt Ideal), StableHlo.after hostOps1_3 U (Proc.devRef .tc main_v21) = U (Proc.devRef .tc main_v21)
      ∧ StableHlo.after hostOps1_3 U (Proc.devRef .tc main_v27) = U (Proc.devRef .tc main_v27) := fun U => by
    constructor <;> after_reads_simp
  have h2 : ∀ U : Valuation τ sig (Elt Ideal), StableHlo.after hostOps1_2 U (Proc.devRef .tc main_v17) = U (Proc.devRef .tc main_v17)
      ∧ StableHlo.after hostOps1_2 U (Proc.devRef .tc main_arg4) = U (Proc.devRef .tc main_arg4) := fun U => by
    constructor <;> after_reads_simp
  have h1 : ∀ U : Valuation τ sig (Elt Ideal), StableHlo.after hostOps1_1 U (Proc.devRef .tc main_arg4) = U (Proc.devRef .tc main_arg4) := fun U => by
    after_reads_simp
  have h0 : ∀ U : Valuation τ sig (Elt Ideal), StableHlo.after hostOps1 U (Proc.devRef .tc main_arg4) = U (Proc.devRef .tc main_arg4) := fun U => by
    after_reads_simp
  have he : e = StableHlo.after hostOps1_4 (StableHlo.after hostOps1_3 (StableHlo.after hostOps1_2
      (StableHlo.after hostOps1_1 (StableHlo.after hostOps1 W)))) := by
    show StableHlo.after _ W = _
    simp only [List.flatten_cons, List.flatten_nil, List.append_nil, StableHlo.after_append]
  rw [he]
  refine ⟨?_, ?_, ?_⟩
  · rw [(h4 _).1, (h3 _).1, read_ents, read_logps, read_logits]
  · rw [(h4 _).2, (h3 _).2, read_varents, read_logps, read_logits]
  · rw [read_reshaped, read_picked, (h2 _).1, (h2 _).2, h1, h0, read_logps, read_logits]

/-- The reference's run: the entropies, the varentropies and the log-probabilities at the targets, in its three results;
    its arguments unchanged. -/
theorem run : θ_run defs (onTc (τ := τ) (main (F := Ideal))) ⟨m, fun _ => 0, ρ⟩ fun r => ∀ c : Dev nD,
      r.2.mem ((c : Thread nD τ).loc main_v21) = ents (lp m c)
      ∧ r.2.mem ((c : Thread nD τ).loc main_v27) = varents (lp m c)
      ∧ r.2.mem ((c : Thread nD τ).loc main_v29)
          = shapeCast S384x7 (picked (lp m c) (m ((c : Thread nD τ).loc main_arg4))) shapeCasts_S3x128x7_S384x7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono ?_ (θ_run_and (run_main m ρ) (unchanged m ρ))
  rintro r ⟨h, hu⟩ c
  have hrest := (h c).2
  have hV : ∀ b : Ref sig .tc, (∀ w, Pipeline.arrRef spec0 w ≠ b) →
      Pipeline.withArrays (cfgs 0).spec c (V0 m c) (fun w => (dats m 0 c).arrAt w (cfgs 0).N) (Proc.devRef .tc b) = V m c b :=
    fun b hb => Pipeline.withArrays_of_ne _ c (V0 m c) _ b hb
  have hP : Pipeline.withArrays (cfgs 0).spec c (V0 m c) (fun w => (dats m 0 c).arrAt w (cfgs 0).N) (Proc.devRef .tc main_v1)
      = product (V m c main_v0) (V m c main_arg2) :=
    (Pipeline.withArrays_arr (cfgs 0).spec (by decide) c (V0 m c) (fun w => (dats m 0 c).arrAt w (cfgs 0).N) 2).trans (final m c)
  obtain ⟨t1, t2, t3⟩ := tail (Pipeline.withArrays (cfgs 0).spec c (V0 m c) (fun w => (dats m 0 c).arrAt w (cfgs 0).N))
  rw [hP, hV main_arg1 (by decide), hV main_arg3 (by decide), hV main_arg5 (by decide), V_main_arg1, V_main_arg3, V_main_arg5,
    V_main_arg2, entry] at t1 t2 t3
  rw [hV main_arg4 (by decide), V_main_arg4] at t3
  refine ⟨(hrest main_v21 (Pipeline.mem_restRefs_of main_v21 (by decide) (by decide))).trans t1,
    (hrest main_v27 (Pipeline.mem_restRefs_of main_v27 (by decide) (by decide))).trans t2,
    (hrest main_v29 (Pipeline.mem_restRefs_of main_v29 (by decide) (by decide))).trans t3, hu c⟩

end Cert.RefRun

end
-- ==== Proof.RefValue.lean ====
module

public import proofs.«01_k».proof.Proof.RefRun
public import proofs.«01_k».proof.Proof.Logit
public import Idealize.ShloMosaic.Lib.Pointwise

@[expose] public section

set_option maxRecDepth 16384

noncomputable section

/-! # The reference's three results, entry by entry -/

namespace Cert.RefValue

open Idealize.ShloMosaic Idealize.ShloMosaic.TcCoe Idealize.SL.Sem
open Cert.ReferenceIdeal Cert.ReferenceIdeal.Gen Cert.RefTail Cert.SoftmaxMath

/-- The row of position `s` of batch `b`. -/
def row (b : Fin 3) (s : Fin 128) : Fin 384 := ⟨128 * b.val + s.val, by omega⟩

/-- The float constant 30. -/
theorem thirty : Ideal.ofBits .f32 0x41F00000#32 = ((30 : ℝ) : EReal) := by
  have h : Ideal.ofBits .f32 0x41F00000#32 = ((15728640 : ℝ) : EReal) * ((1 / 524288 : ℝ) : EReal) := by
    simp [Ideal.ofBits, Ideal.ieee]
    norm_num
  rw [h, ← EReal.coe_mul]
  norm_num

/-- The bits of minus infinity. -/
theorem bot_bits : Ideal.ofBits .f32 0xFF800000#32 = ⊥ := by
  simp [Ideal.ofBits, Ideal.ieee]

/-- Rows merged: the entry of a row is the entry of its batch and position. -/
theorem merge_apply {α : Type} (n : ℕ) (x : (⟨3, ![3, 128, n]⟩ : Shape).Idx → α)
    (h : (⟨3, ![3, 128, n]⟩ : Shape).ShapeCasts (⟨2, ![384, n]⟩ : Shape)) (b : Fin 3) (s : Fin 128) (k : Fin n) :
    shapeCast (⟨2, ![384, n]⟩ : Shape) x h (ix2 (row b s) k) = x (ix3 b s k) := by
  refine Idealize.ShloMosaic.shapeCast_apply x h _ _ ?_
  rw [Shape.rowMajor_val_three, Shape.rowMajor_val_two]
  show (b.val * 128 + s.val) * n + k.val = (128 * b.val + s.val) * n + k.val
  rw [Nat.mul_comm b.val]

/-- Rows split again. -/
theorem split_apply {α : Type} (n : ℕ) (x : (⟨2, ![384, n]⟩ : Shape).Idx → α)
    (h : (⟨2, ![384, n]⟩ : Shape).ShapeCasts (⟨3, ![3, 128, n]⟩ : Shape)) (b : Fin 3) (s : Fin 128) (k : Fin n) :
    shapeCast (⟨3, ![3, 128, n]⟩ : Shape) x h (ix3 b s k) = x (ix2 (row b s) k) := by
  refine Idealize.ShloMosaic.shapeCast_apply x h _ _ ?_
  rw [Shape.rowMajor_val_three, Shape.rowMajor_val_two]
  show (128 * b.val + s.val) * n + k.val = (b.val * 128 + s.val) * n + k.val
  rw [Nat.mul_comm b.val]

/-- The product, entry by entry. -/
theorem product_apply (x : FVec Ideal S384x7168 .fp8e4m3) (w : FVec Ideal S49152x7168 .fp8e4m3) (R : Fin 384) (v : Fin 49152) :
    RefRun.product x w (ix2 R v) = ∑ k : Fin 7168, (x (ix2 R k) : EReal) * w (ix2 v k) := by
  unfold RefRun.product k0_pay1
  pointwise

/-- The logits, entry by entry. -/
theorem logits_apply (z : FVec Ideal S384x49152 .f32) (xs : FVec Ideal S3x128 .f32) (w : FVec Ideal S49152 .f32)
    (T : FVec Ideal S3x128 .f32) (b : Fin 3) (s : Fin 128) (v : Fin 49152) :
    logits z xs w T (ix3 b s v)
      = Ideal.div (((30 : ℝ) : EReal) * Ideal.tanh (Ideal.div (z (ix2 (row b s) v) * xs (ix2 b s) * w (ix1 v)) ((30 : ℝ) : EReal)))
          (T (ix2 b s)) := by
  rw [← split_apply 49152 z shapeCasts_S384x49152_S3x128x49152 b s v]
  unfold logits
  generalize shapeCast S3x128x49152 z shapeCasts_S384x49152_S3x128x49152 = y
  pointwise
  rw [thirty]

/-- The largest of finitely many reals is a real. -/
theorem fold_max_real {n : ℕ} (hn : 0 < n) (x : Fin n → EReal) (f : Fin n → ℝ) (hx : ∀ l, x l = (f l : EReal)) :
    ∃ c : ℝ, max (⊥ : EReal) (Finset.univ.fold max (⊥ : EReal) x) = c := by
  haveI : Nonempty (Fin n) := ⟨⟨0, hn⟩⟩
  have h : Finset.univ.fold max (⊥ : EReal) x = Finset.univ.sup x := rfl
  obtain ⟨i, -, hi⟩ := Finset.exists_mem_eq_sup Finset.univ Finset.univ_nonempty x
  exact ⟨f i, by rw [max_eq_right bot_le, h, hi, hx]⟩

/-- The sum of finitely many reals is a real. -/
theorem coe_sum {ι : Type*} (s : Finset ι) (f : ι → ℝ) : ∑ l ∈ s, (f l : EReal) = ((∑ l ∈ s, f l : ℝ) : EReal) := by
  classical
  induction s using Finset.induction_on with
  | empty => simp
  | insert a s ha ih => rw [Finset.sum_insert ha, Finset.sum_insert ha, ih, EReal.coe_add]

/-- A row's maximum, at any row length. -/
theorem reduce_max {n : ℕ} (a : FVec Ideal (⟨3, ![3, 128, n]⟩ : Shape) .f32)
    (h : (⟨3, ![3, 128, n]⟩ : Shape).ReducesTo [2] S3x128) (b : Fin 3) (s : Fin 128) :
    Host.reduce FloatOps.maximumf a (constant S_ .f32 0xFF800000#32) h h_S_ (ix2 b s)
      = Finset.univ.fold max (⊥ : EReal) (fun v : Fin n => (a (ix3 b s v) : EReal)) := by
  pointwise
  rw [bot_bits]

/-- The rows' maxima. -/
def rowmax (a : FVec Ideal S3x128x49152 .f32) : FVec Ideal S3x128 .f32 :=
  Host.reduce FloatOps.maximumf a (constant S_ .f32 0xFF800000#32) reducesTo_S3x128x49152_S3x128_d2 h_S_

section
variable (a : FVec Ideal S3x128x49152 .f32) (b : Fin 3) (s : Fin 128) (y : Fin 49152 → ℝ)
  (ha : ∀ v, a (ix3 b s v) = ((y v * Real.log 2 : ℝ) : EReal))
include ha

/-- A row's maximum is a real. -/
theorem rowmax_real : ∃ M : ℝ, max (⊥ : EReal) (rowmax a (ix2 b s)) = M := by
  obtain ⟨M, hM⟩ := fold_max_real (by norm_num) (fun v => a (ix3 b s v)) (fun v => y v * Real.log 2) ha
  exact ⟨M, (congrArg (max (⊥ : EReal)) (reduce_max a reducesTo_S3x128x49152_S3x128_d2 b s)).trans hM⟩

omit ha in
/-- A row's entry minus the larger of a constant and a number of the row. -/
theorem minus_row (k : FVec Ideal S_ .f32) (r : FVec Ideal S3x128 .f32) (v : Fin 49152) :
    subf a (broadcastInDim S3x128x49152 ![0, 1, 2] bcast_S3x128x1_S3x128x49152_0_1_2
      (broadcastInDim S3x128x1 ![0, 1] bcast_S3x128_S3x128x1_0_1 (maximumf (broadcastInDim S3x128 ![] bcast_S_S3x128 k) r))) (ix3 b s v)
      = (a (ix3 b s v) - max (k ix0) (r (ix2 b s)) : EReal) := by
  pointwise

omit ha in
/-- The logits minus their row's maximum. -/
theorem shifted_eq (v : Fin 49152) : shifted a (ix3 b s v) = a (ix3 b s v) - max (⊥ : EReal) (rowmax a (ix2 b s)) :=
  (minus_row a b s (constant S_ .f32 0xFF800000#32) (rowmax a) v).trans
    (congrArg (fun z : EReal => (a (ix3 b s v) : EReal) - max z (rowmax a (ix2 b s) : EReal)) bot_bits)

/-- The logits minus their row's maximum are reals, all shifted by one real. -/
theorem shifted_apply : ∃ M : ℝ, ∀ v, shifted a (ix3 b s v) = ((y v * Real.log 2 - M : ℝ) : EReal) := by
  obtain ⟨M, hM⟩ := rowmax_real a b s y ha
  exact ⟨M, fun v => by rw [shifted_eq, hM, ha v, ← EReal.coe_sub]⟩

/-- The log-probabilities of a row. -/
theorem logps_apply (v : Fin 49152) : logps a (ix3 b s v) = ((logp y v : ℝ) : EReal) := by
  obtain ⟨M, hM⟩ := shifted_apply a b s y ha
  have hp : 0 < ∑ w, Real.exp (y w * Real.log 2 - M) :=
    Finset.sum_pos (fun _ _ => Real.exp_pos _) Finset.univ_nonempty
  unfold logps
  pointwise
  rw [Finset.sum_congr rfl (fun w _ => (congrArg Ideal.exp (hM w)).trans (Ideal.exp_coe _)), coe_sum, hM v,
    Ideal.log_coe, if_neg (not_le.mpr hp), ← EReal.coe_sub, logp_shift]
end

section
variable (l : FVec Ideal S3x128x49152 .f32) (b : Fin 3) (s : Fin 128) (y : Fin 49152 → ℝ)
  (hl : ∀ v, l (ix3 b s v) = ((logp y v : ℝ) : EReal))
include hl

/-- The entropy of a row. -/
theorem ents_apply : ents l (ix2 b s) = ((ent y : ℝ) : EReal) := by
  unfold ents
  pointwise
  have h : ∀ v, Ideal.exp (l (ix3 b s v)) * l (ix3 b s v) = ((Real.exp (logp y v) * logp y v : ℝ) : EReal) := fun v => by
    rw [hl v, Ideal.exp_coe, ← EReal.coe_mul]
  rw [Finset.sum_congr rfl (fun v _ => h v), coe_sum, ← EReal.coe_neg, ent]

/-- The varentropy of a row. -/
theorem varents_apply : varents l (ix2 b s) = ((varent y : ℝ) : EReal) := by
  unfold varents centred
  pointwise
  rw [ents_apply l b s y hl]
  have h : ∀ v, Ideal.exp (l (ix3 b s v)) * ((l (ix3 b s v) + ((ent y : ℝ) : EReal)) * (l (ix3 b s v) + ((ent y : ℝ) : EReal)))
      = ((Real.exp (logp y v) * (logp y v + ent y) ^ 2 : ℝ) : EReal) := fun v => by
    rw [hl v, Ideal.exp_coe, ← EReal.coe_add, ← EReal.coe_mul, ← EReal.coe_mul, sq]
  rw [Finset.sum_congr rfl (fun v _ => h v), coe_sum, varent]

end

section
variable (b : Fin 3) (s : Fin 128) (k : Fin 7)

/-- The coordinate a result index gives a start-indices axis. -/
theorem siCoord_val {s si t : Shape} (d : GatherDims s si t) (j : t.Idx) (b : Fin si.rank) (hb : b ∈ d.siKept) (e : Fin t.rank)
    (he : ∀ h, d.batchDims[d.siKept.idxOf b]'h = e) : (d.siCoord j b hb).val = (j e).val := by
  unfold GatherDims.siCoord
  simp only [Fin.val_cast]
  exact congrArg (fun x => (j x).val) (he _)

/-- The gather's dimension numbers. -/
abbrev gd : GatherDims S3x128x49152 S3x128x7x1 S3x128x7 := gather_S3x128x49152_S3x128x7x1_S3x128x7_n_2_01_01_2_3_111

/-- Where a result entry reads its index. -/
theorem gather_si : gd.siIdx (ix3 b s k) ⟨0, by decide⟩ = ix4 b s k 0 := by
  have h0 := siCoord_val gd (ix3 b s k) (0 : Fin 4) (by decide) (0 : Fin 3) (by decide)
  have h1 := siCoord_val gd (ix3 b s k) (1 : Fin 4) (by decide) (1 : Fin 3) (by decide)
  have h2 := siCoord_val gd (ix3 b s k) (2 : Fin 4) (by decide) (2 : Fin 3) (by decide)
  have e0 : (gd.siIdx (ix3 b s k) ⟨0, by decide⟩ (0 : Fin 4)).val = b.val := by
    unfold GatherDims.siIdx; rw [dif_neg (by decide)]; exact h0
  have e1 : (gd.siIdx (ix3 b s k) ⟨0, by decide⟩ (1 : Fin 4)).val = s.val := by
    unfold GatherDims.siIdx; rw [dif_neg (by decide)]; exact h1
  have e2 : (gd.siIdx (ix3 b s k) ⟨0, by decide⟩ (2 : Fin 4)).val = k.val := by
    unfold GatherDims.siIdx; rw [dif_neg (by decide)]; exact h2
  funext a; apply Fin.ext
  match a with
  | ⟨0, _⟩ => exact e0
  | ⟨1, _⟩ => exact e1
  | ⟨2, _⟩ => exact e2
  | ⟨3, _⟩ => rfl

/-- The gather of the targets: each reads its own row at its index, clamped into the row. -/
theorem gather_apply (l : FVec Ideal S3x128x49152 .f32) (i : IVec S3x128x7x1 32) :
    Host.gather gd l i (ix3 b s k) = l (ix3 b s ⟨min (i (ix4 b s k 0)).toInt.toNat 49151, by omega⟩) := by
  unfold Host.gather
  refine congrArg l ?_
  have h0 := siCoord_val gd (ix3 b s k) (0 : Fin 4) (by decide) (0 : Fin 3) (by decide)
  have h1 := siCoord_val gd (ix3 b s k) (1 : Fin 4) (by decide) (1 : Fin 3) (by decide)
  have e0 : (gd.operandIdx (ix3 b s k) i (0 : Fin 3)).val = b.val := by
    unfold GatherDims.operandIdx
    show gd.start _ i (0 : Fin 3) + gd.batchCoord _ (0 : Fin 3) + gd.offCoord _ (0 : Fin 3) = b.val
    rw [gd.start_batching _ _ _ (by decide), gd.offCoord_eq_zero _ _ (by decide)]
    unfold GatherDims.batchCoord
    rw [dif_pos (by decide), Nat.zero_add, Nat.add_zero]
    exact h0
  have e1 : (gd.operandIdx (ix3 b s k) i (1 : Fin 3)).val = s.val := by
    unfold GatherDims.operandIdx
    show gd.start _ i (1 : Fin 3) + gd.batchCoord _ (1 : Fin 3) + gd.offCoord _ (1 : Fin 3) = s.val
    rw [gd.start_batching _ _ _ (by decide), gd.offCoord_eq_zero _ _ (by decide)]
    unfold GatherDims.batchCoord
    rw [dif_pos (by decide), Nat.zero_add, Nat.add_zero]
    exact h1
  have e2 : (gd.operandIdx (ix3 b s k) i (2 : Fin 3)).val = min (i (ix4 b s k 0)).toInt.toNat 49151 := by
    unfold GatherDims.operandIdx
    show gd.start _ i (2 : Fin 3) + gd.batchCoord _ (2 : Fin 3) + gd.offCoord _ (2 : Fin 3) = _
    rw [gd.batchCoord_eq_zero _ _ (by decide), gd.offCoord_eq_zero _ _ (by decide)]
    unfold GatherDims.start
    rw [dif_pos (by decide), ← gather_si b s k]
    rfl
  funext a; apply Fin.ext
  match a with
  | ⟨0, _⟩ => exact e0
  | ⟨1, _⟩ => exact e1
  | ⟨2, _⟩ => exact e2

/-- A target below the vocabulary's size reads the same signed as unsigned. -/
theorem toInt_of_lt {x : BitVec 32} (hx : x.toNat < 49152) : x.toInt = x.toNat :=
  BitVec.toInt_eq_toNat_of_lt (by omega)

variable (t : IVec S3x128x7 32) (ht : (t (ix3 b s k)).toNat < 49152)
include ht

/-- A target in range is not negative. -/
theorem wrapped_apply : wrapped t (ix4 b s k 0) = t (ix3 b s k) := by
  unfold wrapped
  pointwise
  have h : IntOp.cmpi CmpIPredicate.slt (t (ix3 b s k)) 0#32 = 0#1 := by
    show BitVec.ofBool (decide ((t (ix3 b s k)).toInt < 0)) = 0#1
    rw [toInt_of_lt ht, decide_eq_false (by omega)]
    rfl
  rw [h]
  rfl

/-- A target in range names a vocabulary entry. -/
theorem named_apply : RefTail.named t (ix3 b s k) = 1#1 := by
  unfold RefTail.named
  pointwise
  rw [show (Finset.univ : Finset (Fin 1)) = {0} from rfl, Finset.fold_singleton, wrapped_apply b s k t ht]
  have h0 : IntOp.cmpi CmpIPredicate.sge (t (ix3 b s k)) 0#32 = 1#1 := by
    show BitVec.ofBool (decide (0 ≤ (t (ix3 b s k)).toInt)) = 1#1
    rw [toInt_of_lt ht, decide_eq_true (by omega)]
    rfl
  have h1 : IntOp.cmpi CmpIPredicate.sle (t (ix3 b s k)) 49151#32 = 1#1 := by
    show BitVec.ofBool (decide ((t (ix3 b s k)).toInt ≤ 49151)) = 1#1
    rw [toInt_of_lt ht, decide_eq_true (by omega)]
    rfl
  rw [h0, h1]
  rfl

/-- The log-probability picked at a target in range. -/
theorem picked_apply (l : FVec Ideal S3x128x49152 .f32) : picked l t (ix3 b s k) = l (ix3 b s ⟨(t (ix3 b s k)).toNat, ht⟩) := by
  unfold picked
  pointwise
  rw [named_apply b s k t ht, gather_apply]
  refine (if_pos rfl).trans (congrArg (fun v => l (ix3 b s v)) (Fin.ext ?_))
  show min (wrapped t (ix4 b s k 0)).toInt.toNat 49151 = (t (ix3 b s k)).toNat
  rw [wrapped_apply b s k t ht, toInt_of_lt ht]
  omega

end

/-! ## The whole reference -/

section
variable (m : (ℓ : Loc nD τ sig) → Buf (Elt Ideal) ℓ) (c : Dev nD)
  (a0 : FVec Ideal S3x128x7168 .fp8e4m3) (a1 : FVec Ideal S3x128 .f32) (a2 : FVec Ideal S49152x7168 .fp8e4m3)
  (a3 : FVec Ideal S49152 .f32) (a5 : FVec Ideal S3x128 .f32)
  (h5 : ∀ b s, a5 (ix2 b s) ≠ (0 : EReal)) (b : Fin 3) (s : Fin 128)
include h5

/-- The reference's logits are the mathematics' logits. -/
theorem logits_real (v : Fin 49152) :
    logits (RefRun.product (shapeCast S384x7168 a0 shapeCasts_S3x128x7168_S384x7168) a2) a1 a3 a5 (ix3 b s v)
      = ((yReal a0 a1 a2 a3 a5 b s v * Real.log 2 : ℝ) : EReal) := by
  rw [logits_apply, product_apply,
    Finset.sum_congr rfl (fun k _ => congrArg (· * _) (merge_apply 7168 a0 shapeCasts_S3x128x7168_S384x7168 b s k))]
  exact ylog_spec _ _ _ (h5 b s)

/-- The reference's log-probabilities are the mathematics' log-probabilities. -/
theorem logps_real (v : Fin 49152) :
    logps (logits (RefRun.product (shapeCast S384x7168 a0 shapeCasts_S3x128x7168_S384x7168) a2) a1 a3 a5) (ix3 b s v)
      = ((logp (yReal a0 a1 a2 a3 a5 b s) v : ℝ) : EReal) :=
  logps_apply _ b s _ (logits_real a0 a1 a2 a3 a5 h5 b s) v

end

end Cert.RefValue
-- ==== Proof.Algebraic.lean ====
module

public import proofs.«01_k».proof.Defs
public import proofs.«01_k».proof.Proof.Fold
public import proofs.«01_k».proof.Proof.Pre
public import proofs.«01_k».proof.Proof.RefValue
public import proofs.«01_k».proof.Proof.RefRun

@[expose] public section

set_option maxRecDepth 16384

noncomputable section

/-! # The kernel and the reference leave the same three results -/

namespace Cert.Algebraic

open Idealize.ShloMosaic Idealize.ShloMosaic.TcCoe Idealize.SL.Sem
open Cert.SoftmaxMath Cert.KernelIdeal.Step

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's log-probabilities, from arguments the memory holds. -/
theorem lp_value (a0 : FVec Ideal Cert.ReferenceIdeal.S3x128x7168 .fp8e4m3) (a1 : FVec Ideal Cert.ReferenceIdeal.S3x128 .f32)
    (a2 : FVec Ideal Cert.ReferenceIdeal.S49152x7168 .fp8e4m3) (a3 : FVec Ideal Cert.ReferenceIdeal.S49152 .f32)
    (a5 : FVec Ideal Cert.ReferenceIdeal.S3x128 .f32)
    (e0 : m' ((c.tc : Thread Cert.ReferenceIdeal.nD Cert.ReferenceIdeal.τ).loc Cert.ReferenceIdeal.main_arg0) = a0)
    (e1 : m' ((c.tc : Thread Cert.ReferenceIdeal.nD Cert.ReferenceIdeal.τ).loc Cert.ReferenceIdeal.main_arg1) = a1)
    (e2 : m' ((c.tc : Thread Cert.ReferenceIdeal.nD Cert.ReferenceIdeal.τ).loc Cert.ReferenceIdeal.main_arg2) = a2)
    (e3 : m' ((c.tc : Thread Cert.ReferenceIdeal.nD Cert.ReferenceIdeal.τ).loc Cert.ReferenceIdeal.main_arg3) = a3)
    (e5 : m' ((c.tc : Thread Cert.ReferenceIdeal.nD Cert.ReferenceIdeal.τ).loc Cert.ReferenceIdeal.main_arg5) = a5)
    (h5 : ∀ b s, a5 (ix2 b s) ≠ (0 : EReal)) (b : Fin 3) (s : Fin 128) (v : Fin 49152) :
    Cert.RefRun.lp m' c (ix3 b s v) = ((logp (yReal a0 a1 a2 a3 a5 b s) v : ℝ) : EReal) := by
  subst e0 e1 e2 e3 e5
  exact Cert.RefValue.logps_real _ _ _ _ _ h5 b s v

/-- The two programs start from the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (hs : Same m m' c) (h5 : TempOk m c) (hT : ∀ R k, rowT m c R k < 49152)
include hs h5

/-- The reference's log-probabilities, from the arguments of the kernel. -/
theorem lp_same (b : Fin 3) (s : Fin 128) (v : Fin 49152) :
    Cert.RefRun.lp m' c (ix3 b s v) = ((logp (yOf m c b s) v : ℝ) : EReal) :=
  lp_value m' c _ _ _ _ _ hs.1 hs.2.1 hs.2.2.1 hs.2.2.2.1 hs.2.2.2.2.2 h5 b s v

include hT

/-- The entropies agree. -/
theorem ent_same : Cert.RefTail.ents (Cert.RefRun.lp m' c) = Cert.KernelIdeal.Value.G6 m c := by
  funext y
  obtain ⟨b, s, rfl⟩ : ∃ (b : Fin 3) (s : Fin 128), y = ix2 b s := ⟨y 0, y 1, eq_ix2 y⟩
  exact (Cert.RefValue.ents_apply _ b s _ (lp_same m m' c hs h5 b s)).trans (final_ent m c h5 hT b s).symm

/-- The varentropies agree. -/
theorem var_same : Cert.RefTail.varents (Cert.RefRun.lp m' c) = Cert.KernelIdeal.Value.G7 m c := by
  funext y
  obtain ⟨b, s, rfl⟩ : ∃ (b : Fin 3) (s : Fin 128), y = ix2 b s := ⟨y 0, y 1, eq_ix2 y⟩
  exact (Cert.RefValue.varents_apply _ b s _ (lp_same m m' c hs h5 b s)).trans (final_var m c h5 hT b s).symm

/-- A target the reference picks is the one the kernel reads. -/
theorem target_same (b : Fin 3) (s : Fin 128) (k : Fin 7) :
    ((m' ((c.tc : Thread Cert.ReferenceIdeal.nD Cert.ReferenceIdeal.τ).loc Cert.ReferenceIdeal.main_arg4) :
        IVec Cert.ReferenceIdeal.S3x128x7 32) (ix3 b s k)).toNat = rowT m c (brow b s) k := by
  unfold rowT
  rw [bOf_brow, sOf_brow]
  exact congrArg (fun a : IVec Cert.ReferenceIdeal.S3x128x7 32 => (a (ix3 b s k)).toNat) hs.2.2.2.2.1

/-- The target log-probabilities agree. -/
theorem logp_same : shapeCast Cert.ReferenceIdeal.S384x7
      (Cert.RefTail.picked (Cert.RefRun.lp m' c)
        (m' ((c.tc : Thread Cert.ReferenceIdeal.nD Cert.ReferenceIdeal.τ).loc Cert.ReferenceIdeal.main_arg4)))
      Cert.ReferenceIdeal.Facts₀.shapeCasts_S3x128x7_S384x7 = Cert.KernelIdeal.Value.G8 m c := by
  funext y
  obtain ⟨R, k, rfl⟩ : ∃ (R : Fin 384) (k : Fin 7), y = ix2 R k := ⟨y 0, y 1, eq_ix2 y⟩
  obtain ⟨b, s, rfl⟩ := exists_brow R
  have ht := target_same m m' c hs h5 hT b s k
  refine (Cert.RefValue.merge_apply 7 _ _ b s k).trans ?_
  refine (Cert.RefValue.picked_apply b s k _ (lt_of_eq_of_lt ht (hT _ _)) _).trans ?_
  refine (lp_same m m' c hs h5 b s _).trans (Eq.trans ?_ (final_logp m c h5 hT b s k).symm)
  exact congrArg (fun v => ((logp (yOf m c b s) v : ℝ) : EReal)) (Fin.ext ht)

end Cert.Algebraic

namespace Cert.Algebraic

open Idealize.ShloMosaic Idealize.ShloMosaic.TcCoe Idealize.SL.Sem
open Cert.KernelIdeal.Step

/-- The kernel and the reference leave the same three results where the targets name vocabulary entries and no temperature is zero. -/
theorem algebraic : Cert.algebraic_KernelIdeal_ReferenceIdeal_pre_meaningful (hKernelIdeal := Cert.KernelIdeal.Gen.facts)
    (hReferenceIdeal := Cert.ReferenceIdeal.Gen.facts) (hPre_meaningful := Cert.PreRead.facts) := by
  intro m g m' g' hp hs
  have h5 : ∀ c, TempOk m c := fun c b s => @Cert.PreRead.temp_ne Cert.PreRead.facts _ _ _ _ _ _ (hp c) b s
  have hT : ∀ c R k, rowT m c R k < 49152 := fun c R k => @Cert.PreRead.target_lt Cert.PreRead.facts _ _ _ _ _ _ (hp c) (bOf R) (sOf R) k
  refine ⟨fun c => Cert.KernelIdeal.Value.G6 m c, fun c => Cert.KernelIdeal.Value.G7 m c,
    fun c => Cert.KernelIdeal.Value.G8 m c, Cert.KernelIdeal.Value.run m g, ?_⟩
  refine (θ_run _ _ _).mono (fun r h c => ?_) (Cert.RefRun.run m' g')
  obtain ⟨r0, r1, r2, rest⟩ := h c
  exact ⟨r0.trans (ent_same m m' c (hs c) (h5 c) (hT c)), r1.trans (var_same m m' c (hs c) (h5 c) (hT c)),
    r2.trans (logp_same m m' c (hs c) (h5 c) (hT c)), rest⟩

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.PreRead.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g,
  Cert.KernelClaims.preserves, Cert.Algebraic.algebraic⟩

end Cert.Proof

end
